-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000x2048 : Shape := ⟨3, ![32, 1000, 2048]⟩
abbrev S2x1000x2048 : Shape := ⟨3, ![2, 1000, 2048]⟩
abbrev S2x2048 : Shape := ⟨2, ![2, 2048]⟩
abbrev S2x1x2048 : Shape := ⟨3, ![2, 1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S32x1000x2048, .f32⟩
  | .hbm, ⟨1, _⟩ => ⟨S32x1000x2048, .f32⟩
  | .local _ .vmem, ⟨0, _⟩ => ⟨S2x1000x2048, .f32⟩
  | .local _ .vmem, ⟨1, _⟩ => ⟨S2x1000x2048, .f32⟩
  | .local _ .vmem, ⟨2, _⟩ => ⟨S2x1000x2048, .f32⟩
  | .local _ .vmem, ⟨3, _⟩ => ⟨S2x1000x2048, .f32⟩
  | _, _ => ⟨S32x1000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1000x2048 : Shape := ⟨3, ![32, 1000, 2048]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S32x2048 : Shape := ⟨2, ![32, 2048]⟩
abbrev S32x2048x1 : Shape := ⟨3, ![32, 2048, 1]⟩
abbrev S1x1x1000 : Shape := ⟨3, ![1, 1, 1000]⟩
abbrev S32x2048x1000 : Shape := ⟨3, ![32, 2048, 1000]⟩

abbrev nBuf : Space → Nat
  | .hbm => 1305
  | .vmem => 0
  | .smem => 0
  | _ => 0

abbrev hbmTy0_0 (i : Nat) : BufTy := match i % 128 with
  | 0 => ⟨S32x1000x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S32x1000x2048, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S32x1000x2048, .f32⟩

abbrev hbmTy0_2 (i : Nat) : BufTy := match i % 128 with
  | 0 => ⟨S_, .f32⟩
  | 1 => ⟨S_, .f32⟩
  | 2 => ⟨S1x1, .f32⟩
  | 3 => ⟨S1x1, .f32⟩
  | 4 => ⟨S1, .i32⟩
  | 5 => ⟨S_, .i32⟩
  | 6 => ⟨S1, .i32⟩
  | 7 => ⟨S_, .i32⟩
  | 8 => ⟨S32x2048, .i64⟩
  | 9 => ⟨S32x2048, .i64⟩
  | 10 => ⟨S_, .i64⟩
  | 11 => ⟨S32x2048, .i64⟩
  | 12 => ⟨S32x2048, .i64⟩
  | 13 => ⟨S_, .i64⟩
  | 14 => ⟨S32x2048, .i64⟩
  | 15 => ⟨S32x2048, .i64⟩
  | 16 => ⟨S32x2048, .i64⟩
  | 17 => ⟨S_, .i64⟩
  | 18 => ⟨S32x2048, .i64⟩
  | 19 => ⟨S32x2048, .i64⟩
  | 20 => ⟨S32x2048, .i32⟩
  | 21 => ⟨S32x2048, .i32⟩
  | 22 => ⟨S_, .i32⟩
  | 23 => ⟨S_, .i32⟩
  | 24 => ⟨S_, .i32⟩
  | 25 => ⟨S32x2048, .i32⟩
  | 26 => ⟨S32x2048, .i32⟩
  | 27 => ⟨S32x2048, .i32⟩
  | 28 => ⟨S32x2048, .i32⟩
  | 29 => ⟨S32x2048, .i32⟩
  | 30 => ⟨S_, .i32⟩
  | 31 => ⟨S32x2048, .i32⟩
  | 32 => ⟨S32x2048, .i32⟩
  | 33 => ⟨S_, .i32⟩
  | 34 => ⟨S32x2048, .i32⟩
  | 35 => ⟨S32x2048, .i32⟩
  | 36 => ⟨S32x2048, .i32⟩
  | 37 => ⟨S32x2048, .i32⟩
  | 38 => ⟨S32x2048, .i32⟩
  | 39 => ⟨S_, .i32⟩
  | 40 => ⟨S32x2048, .i32⟩
  | 41 => ⟨S32x2048, .i32⟩
  | 42 => ⟨S_, .i32⟩
  | 43 => ⟨S32x2048, .i32⟩
  | 44 => ⟨S32x2048, .i32⟩
  | 45 => ⟨S32x2048, .i32⟩
  | 46 => ⟨S32x2048, .i32⟩
  | 47 => ⟨S32x2048, .i32⟩
  | 48 => ⟨S_, .i32⟩
  | 49 => ⟨S32x2048, .i32⟩
  | 50 => ⟨S32x2048, .i32⟩
  | 51 => ⟨S_, .i32⟩
  | 52 => ⟨S32x2048, .i32⟩
  | 53 => ⟨S32x2048, .i32⟩
  | 54 => ⟨S32x2048, .i32⟩
  | 55 => ⟨S32x2048, .i32⟩
  | 56 => ⟨S32x2048, .i32⟩
  | 57 => ⟨S_, .i32⟩
  | 58 => ⟨S32x2048, .i32⟩
  | 59 => ⟨S32x2048, .i32⟩
  | 60 => ⟨S_, .i32⟩
  | 61 => ⟨S32x2048, .i32⟩
  | 62 => ⟨S32x2048, .i32⟩
  | 63 => ⟨S32x2048, .i32⟩
  | 64 => ⟨S32x2048, .i32⟩
  | 65 => ⟨S32x2048, .i32⟩
  | 66 => ⟨S32x2048, .i32⟩
  | 67 => ⟨S32x2048, .i32⟩
  | 68 => ⟨S32x2048, .i32⟩
  | 69 => ⟨S_, .i32⟩
  | 70 => ⟨S32x2048, .i32⟩
  | 71 => ⟨S32x2048, .i32⟩
  | 72 => ⟨S32x2048, .i32⟩
  | 73 => ⟨S_, .i32⟩
  | 74 => ⟨S32x2048, .i32⟩
  | 75 => ⟨S32x2048, .i32⟩
  | 76 => ⟨S_, .i32⟩
  | 77 => ⟨S32x2048, .i32⟩
  | 78 => ⟨S32x2048, .i32⟩
  | 79 => ⟨S32x2048, .i32⟩
  | 80 => ⟨S32x2048, .i32⟩
  | 81 => ⟨S32x2048, .i32⟩
  | 82 => ⟨S_, .i32⟩
  | 83 => ⟨S32x2048, .i32⟩
  | 84 => ⟨S32x2048, .i32⟩
  | 85 => ⟨S_, .i32⟩
  | 86 => ⟨S32x2048, .i32⟩
  | 87 => ⟨S32x2048, .i32⟩
  | 88 => ⟨S32x2048, .i32⟩
  | 89 => ⟨S32x2048, .i32⟩
  | 90 => ⟨S32x2048, .i32⟩
  | 91 => ⟨S_, .i32⟩
  | 92 => ⟨S32x2048, .i32⟩
  | 93 => ⟨S32x2048, .i32⟩
  | 94 => ⟨S_, .i32⟩
  | 95 => ⟨S32x2048, .i32⟩
  | 96 => ⟨S32x2048, .i32⟩
  | 97 => ⟨S32x2048, .i32⟩
  | 98 => ⟨S32x2048, .i32⟩
  | 99 => ⟨S32x2048, .i32⟩
  | 100 => ⟨S_, .i32⟩
  | 101 => ⟨S32x2048, .i32⟩
  | 102 => ⟨S32x2048, .i32⟩
  | 103 => ⟨S_, .i32⟩
  | 104 => ⟨S32x2048, .i32⟩
  | 105 => ⟨S32x2048, .i32⟩
  | 106 => ⟨S32x2048, .i32⟩
  | 107 => ⟨S32x2048, .i32⟩
  | 108 => ⟨S32x2048, .i32⟩
  | 109 => ⟨S32x2048, .i32⟩
  | 110 => ⟨S32x2048, .i32⟩
  | 111 => ⟨S32x2048, .i32⟩
  | 112 => ⟨S_, .i32⟩
  | 113 => ⟨S32x2048, .i32⟩
  | 114 => ⟨S32x2048, .i32⟩
  | 115 => ⟨S32x2048, .i32⟩
  | 116 => ⟨S_, .i32⟩
  | 117 => ⟨S32x2048, .i32⟩
  | 118 => ⟨S32x2048, .i32⟩
  | 119 => ⟨S_, .i32⟩
  | 120 => ⟨S32x2048, .i32⟩
  | 121 => ⟨S32x2048, .i32⟩
  | 122 => ⟨S32x2048, .i32⟩
  | 123 => ⟨S32x2048, .i32⟩
  | 124 => ⟨S32x2048, .i32⟩
  | 125 => ⟨S_, .i32⟩
  | 126 => ⟨S32x2048, .i32⟩
  | 127 => ⟨S32x2048, .i32⟩
  | _ => ⟨S32x1000x2048, .f32⟩

abbrev hbmTy0_3 (i : Nat) : BufTy := match i % 128 with
  | 0 => ⟨S_, .i32⟩
  | 1 => ⟨S32x2048, .i32⟩
  | 2 => ⟨S32x2048, .i32⟩
  | 3 => ⟨S32x2048, .i32⟩
  | 4 => ⟨S32x2048, .i32⟩
  | 5 => ⟨S32x2048, .i32⟩
  | 6 => ⟨S_, .i32⟩
  | 7 => ⟨S32x2048, .i32⟩
  | 8 => ⟨S32x2048, .i32⟩
  | 9 => ⟨S_, .i32⟩
  | 10 => ⟨S32x2048, .i32⟩
  | 11 => ⟨S32x2048, .i32⟩
  | 12 => ⟨S32x2048, .i32⟩
  | 13 => ⟨S32x2048, .i32⟩
  | 14 => ⟨S32x2048, .i32⟩
  | 15 => ⟨S_, .i32⟩
  | 16 => ⟨S32x2048, .i32⟩
  | 17 => ⟨S32x2048, .i32⟩
  | 18 => ⟨S_, .i32⟩
  | 19 => ⟨S32x2048, .i32⟩
  | 20 => ⟨S32x2048, .i32⟩
  | 21 => ⟨S32x2048, .i32⟩
  | 22 => ⟨S32x2048, .i32⟩
  | 23 => ⟨S32x2048, .i32⟩
  | 24 => ⟨S32x2048, .i32⟩
  | 25 => ⟨S32x2048, .i32⟩
  | 26 => ⟨S32x2048, .i32⟩
  | 27 => ⟨S_, .i32⟩
  | 28 => ⟨S32x2048, .i32⟩
  | 29 => ⟨S32x2048, .i32⟩
  | 30 => ⟨S32x2048, .i32⟩
  | 31 => ⟨S_, .i32⟩
  | 32 => ⟨S32x2048, .i32⟩
  | 33 => ⟨S32x2048, .i32⟩
  | 34 => ⟨S_, .i32⟩
  | 35 => ⟨S32x2048, .i32⟩
  | 36 => ⟨S32x2048, .i32⟩
  | 37 => ⟨S32x2048, .i32⟩
  | 38 => ⟨S32x2048, .i32⟩
  | 39 => ⟨S32x2048, .i32⟩
  | 40 => ⟨S_, .i32⟩
  | 41 => ⟨S32x2048, .i32⟩
  | 42 => ⟨S32x2048, .i32⟩
  | 43 => ⟨S_, .i32⟩
  | 44 => ⟨S32x2048, .i32⟩
  | 45 => ⟨S32x2048, .i32⟩
  | 46 => ⟨S32x2048, .i32⟩
  | 47 => ⟨S32x2048, .i32⟩
  | 48 => ⟨S32x2048, .i32⟩
  | 49 => ⟨S_, .i32⟩
  | 50 => ⟨S32x2048, .i32⟩
  | 51 => ⟨S32x2048, .i32⟩
  | 52 => ⟨S_, .i32⟩
  | 53 => ⟨S32x2048, .i32⟩
  | 54 => ⟨S32x2048, .i32⟩
  | 55 => ⟨S32x2048, .i32⟩
  | 56 => ⟨S32x2048, .i32⟩
  | 57 => ⟨S32x2048, .i32⟩
  | 58 => ⟨S_, .i32⟩
  | 59 => ⟨S32x2048, .i32⟩
  | 60 => ⟨S32x2048, .i32⟩
  | 61 => ⟨S_, .i32⟩
  | 62 => ⟨S32x2048, .i32⟩
  | 63 => ⟨S32x2048, .i32⟩
  | 64 => ⟨S32x2048, .i32⟩
  | 65 => ⟨S32x2048, .i32⟩
  | 66 => ⟨S32x2048, .i32⟩
  | 67 => ⟨S32x2048, .i32⟩
  | 68 => ⟨S32x2048, .i32⟩
  | 69 => ⟨S32x2048, .i32⟩
  | 70 => ⟨S_, .i32⟩
  | 71 => ⟨S32x2048, .i32⟩
  | 72 => ⟨S32x2048, .i32⟩
  | 73 => ⟨S32x2048, .i32⟩
  | 74 => ⟨S_, .i32⟩
  | 75 => ⟨S32x2048, .i32⟩
  | 76 => ⟨S32x2048, .i32⟩
  | 77 => ⟨S_, .i32⟩
  | 78 => ⟨S32x2048, .i32⟩
  | 79 => ⟨S32x2048, .i32⟩
  | 80 => ⟨S32x2048, .i32⟩
  | 81 => ⟨S32x2048, .i32⟩
  | 82 => ⟨S32x2048, .i32⟩
  | 83 => ⟨S_, .i32⟩
  | 84 => ⟨S32x2048, .i32⟩
  | 85 => ⟨S32x2048, .i32⟩
  | 86 => ⟨S_, .i32⟩
  | 87 => ⟨S32x2048, .i32⟩
  | 88 => ⟨S32x2048, .i32⟩
  | 89 => ⟨S32x2048, .i32⟩
  | 90 => ⟨S32x2048, .i32⟩
  | 91 => ⟨S32x2048, .i32⟩
  | 92 => ⟨S_, .i32⟩
  | 93 => ⟨S32x2048, .i32⟩
  | 94 => ⟨S32x2048, .i32⟩
  | 95 => ⟨S_, .i32⟩
  | 96 => ⟨S32x2048, .i32⟩
  | 97 => ⟨S32x2048, .i32⟩
  | 98 => ⟨S32x2048, .i32⟩
  | 99 => ⟨S32x2048, .i32⟩
  | 100 => ⟨S32x2048, .i32⟩
  | 101 => ⟨S_, .i32⟩
  | 102 => ⟨S32x2048, .i32⟩
  | 103 => ⟨S32x2048, .i32⟩
  | 104 => ⟨S_, .i32⟩
  | 105 => ⟨S32x2048, .i32⟩
  | 106 => ⟨S32x2048, .i32⟩
  | 107 => ⟨S32x2048, .i32⟩
  | 108 => ⟨S32x2048, .i32⟩
  | 109 => ⟨S32x2048, .i32⟩
  | 110 => ⟨S32x2048, .i32⟩
  | 111 => ⟨S32x2048, .i32⟩
  | 112 => ⟨S32x2048, .i32⟩
  | 113 => ⟨S_, .i32⟩
  | 114 => ⟨S32x2048, .i32⟩
  | 115 => ⟨S32x2048, .i32⟩
  | 116 => ⟨S32x2048, .i32⟩
  | 117 => ⟨S_, .i32⟩
  | 118 => ⟨S32x2048, .i32⟩
  | 119 => ⟨S32x2048, .i32⟩
  | 120 => ⟨S_, .i32⟩
  | 121 => ⟨S32x2048, .i32⟩
  | 122 => ⟨S32x2048, .i32⟩
  | 123 => ⟨S32x2048, .f32⟩
  | 124 => ⟨S_, .f32⟩
  | 125 => ⟨S32x2048, .f32⟩
  | 126 => ⟨S32x2048, .f32⟩
  | 127 => ⟨S1x1, .f32⟩
  | _ => ⟨S32x1000x2048, .f32⟩

abbrev hbmTy0_4 (i : Nat) : BufTy := match i % 128 with
  | 0 => ⟨S32x2048, .f32⟩
  | 1 => ⟨S32x2048, .f32⟩
  | 2 => ⟨S32x2048, .f32⟩
  | 3 => ⟨S32x2048, .f32⟩
  | 4 => ⟨S32x2048, .f32⟩
  | 5 => ⟨S32x2048, .f32⟩
  | 6 => ⟨S32x2048, .f32⟩
  | 7 => ⟨S32x2048, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x1, .i32⟩
  | 27 => ⟨S1x1, .i32⟩
  | 28 => ⟨S1, .i32⟩
  | 29 => ⟨S_, .i32⟩
  | 30 => ⟨S1, .i32⟩
  | 31 => ⟨S_, .i32⟩
  | 32 => ⟨S2, .i64⟩
  | 33 => ⟨S_, .i64⟩
  | 34 => ⟨S2, .i64⟩
  | 35 => ⟨S2, .i64⟩
  | 36 => ⟨S_, .i64⟩
  | 37 => ⟨S2, .i64⟩
  | 38 => ⟨S2, .i64⟩
  | 39 => ⟨S2, .i32⟩
  | 40 => ⟨S2, .i32⟩
  | 41 => ⟨S_, .i32⟩
  | 42 => ⟨S_, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S32x1000x2048, .f32⟩

abbrev hbmTy0_5 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S32x1000x2048, .f32⟩

abbrev hbmTy0_6 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S2x1, .i32⟩
  | 8 => ⟨S2x1, .i32⟩
  | 9 => ⟨S2x2, .i32⟩
  | 10 => ⟨S1x2, .i32⟩
  | 11 => ⟨S2, .i32⟩
  | 12 => ⟨S1x2, .i32⟩
  | 13 => ⟨S2, .i32⟩
  | 14 => ⟨S1, .i32⟩
  | 15 => ⟨S_, .i32⟩
  | 16 => ⟨S1, .i32⟩
  | 17 => ⟨S_, .i32⟩
  | 18 => ⟨S32x2048, .i64⟩
  | 19 => ⟨S32x2048, .i64⟩
  | 20 => ⟨S_, .i64⟩
  | 21 => ⟨S32x2048, .i64⟩
  | 22 => ⟨S32x2048, .i64⟩
  | 23 => ⟨S_, .i64⟩
  | 24 => ⟨S32x2048, .i64⟩
  | 25 => ⟨S32x2048, .i64⟩
  | 26 => ⟨S32x2048, .i64⟩
  | 27 => ⟨S_, .i64⟩
  | 28 => ⟨S32x2048, .i64⟩
  | 29 => ⟨S32x2048, .i64⟩
  | 30 => ⟨S32x2048, .i32⟩
  | 31 => ⟨S32x2048, .i32⟩
  | 32 => ⟨S_, .i32⟩
  | 33 => ⟨S_, .i32⟩
  | 34 => ⟨S_, .i32⟩
  | 35 => ⟨S32x2048, .i32⟩
  | 36 => ⟨S32x2048, .i32⟩
  | 37 => ⟨S32x2048, .i32⟩
  | 38 => ⟨S32x2048, .i32⟩
  | 39 => ⟨S32x2048, .i32⟩
  | 40 => ⟨S_, .i32⟩
  | 41 => ⟨S32x2048, .i32⟩
  | 42 => ⟨S32x2048, .i32⟩
  | 43 => ⟨S_, .i32⟩
  | 44 => ⟨S32x2048, .i32⟩
  | 45 => ⟨S32x2048, .i32⟩
  | 46 => ⟨S32x2048, .i32⟩
  | 47 => ⟨S32x2048, .i32⟩
  | 48 => ⟨S32x2048, .i32⟩
  | 49 => ⟨S_, .i32⟩
  | 50 => ⟨S32x2048, .i32⟩
  | 51 => ⟨S32x2048, .i32⟩
  | 52 => ⟨S_, .i32⟩
  | 53 => ⟨S32x2048, .i32⟩
  | 54 => ⟨S32x2048, .i32⟩
  | 55 => ⟨S32x2048, .i32⟩
  | 56 => ⟨S32x2048, .i32⟩
  | 57 => ⟨S32x2048, .i32⟩
  | 58 => ⟨S_, .i32⟩
  | 59 => ⟨S32x2048, .i32⟩
  | 60 => ⟨S32x2048, .i32⟩
  | 61 => ⟨S_, .i32⟩
  | 62 => ⟨S32x2048, .i32⟩
  | 63 => ⟨S32x2048, .i32⟩
  | 64 => ⟨S32x2048, .i32⟩
  | 65 => ⟨S32x2048, .i32⟩
  | 66 => ⟨S32x2048, .i32⟩
  | 67 => ⟨S_, .i32⟩
  | 68 => ⟨S32x2048, .i32⟩
  | 69 => ⟨S32x2048, .i32⟩
  | 70 => ⟨S_, .i32⟩
  | 71 => ⟨S32x2048, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S32x2048, .i32⟩
  | 79 => ⟨S_, .i32⟩
  | 80 => ⟨S32x2048, .i32⟩
  | 81 => ⟨S32x2048, .i32⟩
  | 82 => ⟨S32x2048, .i32⟩
  | 83 => ⟨S_, .i32⟩
  | 84 => ⟨S32x2048, .i32⟩
  | 85 => ⟨S32x2048, .i32⟩
  | 86 => ⟨S_, .i32⟩
  | 87 => ⟨S32x2048, .i32⟩
  | 88 => ⟨S32x2048, .i32⟩
  | 89 => ⟨S32x2048, .i32⟩
  | 90 => ⟨S32x2048, .i32⟩
  | 91 => ⟨S32x2048, .i32⟩
  | 92 => ⟨S_, .i32⟩
  | 93 => ⟨S32x2048, .i32⟩
  | 94 => ⟨S32x2048, .i32⟩
  | 95 => ⟨S_, .i32⟩
  | 96 => ⟨S32x2048, .i32⟩
  | 97 => ⟨S32x2048, .i32⟩
  | 98 => ⟨S32x2048, .i32⟩
  | 99 => ⟨S32x2048, .i32⟩
  | 100 => ⟨S32x2048, .i32⟩
  | 101 => ⟨S_, .i32⟩
  | 102 => ⟨S32x2048, .i32⟩
  | 103 => ⟨S32x2048, .i32⟩
  | 104 => ⟨S_, .i32⟩
  | 105 => ⟨S32x2048, .i32⟩
  | 106 => ⟨S32x2048, .i32⟩
  | 107 => ⟨S32x2048, .i32⟩
  | 108 => ⟨S32x2048, .i32⟩
  | 109 => ⟨S32x2048, .i32⟩
  | 110 => ⟨S_, .i32⟩
  | 111 => ⟨S32x2048, .i32⟩
  | 112 => ⟨S32x2048, .i32⟩
  | 113 => ⟨S_, .i32⟩
  | 114 => ⟨S32x2048, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S32x2048, .i32⟩
  | 121 => ⟨S32x2048, .i32⟩
  | 122 => ⟨S_, .i32⟩
  | 123 => ⟨S32x2048, .i32⟩
  | 124 => ⟨S32x2048, .i32⟩
  | 125 => ⟨S32x2048, .i32⟩
  | 126 => ⟨S_, .i32⟩
  | 127 => ⟨S32x2048, .i32⟩
  | _ => ⟨S32x1000x2048, .f32⟩

abbrev hbmTy0_7 (i : Nat) : BufTy := match i % 128 with
  | 0 => ⟨S32x2048, .i32⟩
  | 1 => ⟨S_, .i32⟩
  | 2 => ⟨S32x2048, .i32⟩
  | 3 => ⟨S32x2048, .i32⟩
  | 4 => ⟨S32x2048, .i32⟩
  | 5 => ⟨S32x2048, .i32⟩
  | 6 => ⟨S32x2048, .i32⟩
  | 7 => ⟨S_, .i32⟩
  | 8 => ⟨S32x2048, .i32⟩
  | 9 => ⟨S32x2048, .i32⟩
  | 10 => ⟨S_, .i32⟩
  | 11 => ⟨S32x2048, .i32⟩
  | 12 => ⟨S32x2048, .i32⟩
  | 13 => ⟨S32x2048, .i32⟩
  | 14 => ⟨S32x2048, .i32⟩
  | 15 => ⟨S32x2048, .i32⟩
  | 16 => ⟨S_, .i32⟩
  | 17 => ⟨S32x2048, .i32⟩
  | 18 => ⟨S32x2048, .i32⟩
  | 19 => ⟨S_, .i32⟩
  | 20 => ⟨S32x2048, .i32⟩
  | 21 => ⟨S32x2048, .i32⟩
  | 22 => ⟨S32x2048, .i32⟩
  | 23 => ⟨S32x2048, .i32⟩
  | 24 => ⟨S32x2048, .i32⟩
  | 25 => ⟨S_, .i32⟩
  | 26 => ⟨S32x2048, .i32⟩
  | 27 => ⟨S32x2048, .i32⟩
  | 28 => ⟨S_, .i32⟩
  | 29 => ⟨S32x2048, .i32⟩
  | 30 => ⟨S32x2048, .i32⟩
  | 31 => ⟨S32x2048, .i32⟩
  | 32 => ⟨S32x2048, .i32⟩
  | 33 => ⟨S32x2048, .i32⟩
  | 34 => ⟨S32x2048, .i32⟩
  | 35 => ⟨S32x2048, .i32⟩
  | 36 => ⟨S32x2048, .i32⟩
  | 37 => ⟨S_, .i32⟩
  | 38 => ⟨S32x2048, .i32⟩
  | 39 => ⟨S32x2048, .i32⟩
  | 40 => ⟨S32x2048, .i32⟩
  | 41 => ⟨S_, .i32⟩
  | 42 => ⟨S32x2048, .i32⟩
  | 43 => ⟨S32x2048, .i32⟩
  | 44 => ⟨S_, .i32⟩
  | 45 => ⟨S32x2048, .i32⟩
  | 46 => ⟨S32x2048, .i32⟩
  | 47 => ⟨S32x2048, .i32⟩
  | 48 => ⟨S32x2048, .i32⟩
  | 49 => ⟨S32x2048, .i32⟩
  | 50 => ⟨S_, .i32⟩
  | 51 => ⟨S32x2048, .i32⟩
  | 52 => ⟨S32x2048, .i32⟩
  | 53 => ⟨S_, .i32⟩
  | 54 => ⟨S32x2048, .i32⟩
  | 55 => ⟨S32x2048, .i32⟩
  | 56 => ⟨S32x2048, .i32⟩
  | 57 => ⟨S32x2048, .i32⟩
  | 58 => ⟨S32x2048, .i32⟩
  | 59 => ⟨S_, .i32⟩
  | 60 => ⟨S32x2048, .i32⟩
  | 61 => ⟨S32x2048, .i32⟩
  | 62 => ⟨S_, .i32⟩
  | 63 => ⟨S32x2048, .i32⟩
  | 64 => ⟨S32x2048, .i32⟩
  | 65 => ⟨S32x2048, .i32⟩
  | 66 => ⟨S32x2048, .i32⟩
  | 67 => ⟨S32x2048, .i32⟩
  | 68 => ⟨S_, .i32⟩
  | 69 => ⟨S32x2048, .i32⟩
  | 70 => ⟨S32x2048, .i32⟩
  | 71 => ⟨S_, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S32x2048, .i32⟩
  | 79 => ⟨S32x2048, .i32⟩
  | 80 => ⟨S_, .i32⟩
  | 81 => ⟨S32x2048, .i32⟩
  | 82 => ⟨S32x2048, .i32⟩
  | 83 => ⟨S32x2048, .i32⟩
  | 84 => ⟨S_, .i32⟩
  | 85 => ⟨S32x2048, .i32⟩
  | 86 => ⟨S32x2048, .i32⟩
  | 87 => ⟨S_, .i32⟩
  | 88 => ⟨S32x2048, .i32⟩
  | 89 => ⟨S32x2048, .i32⟩
  | 90 => ⟨S32x2048, .i32⟩
  | 91 => ⟨S32x2048, .i32⟩
  | 92 => ⟨S32x2048, .i32⟩
  | 93 => ⟨S_, .i32⟩
  | 94 => ⟨S32x2048, .i32⟩
  | 95 => ⟨S32x2048, .i32⟩
  | 96 => ⟨S_, .i32⟩
  | 97 => ⟨S32x2048, .i32⟩
  | 98 => ⟨S32x2048, .i32⟩
  | 99 => ⟨S32x2048, .i32⟩
  | 100 => ⟨S32x2048, .i32⟩
  | 101 => ⟨S32x2048, .i32⟩
  | 102 => ⟨S_, .i32⟩
  | 103 => ⟨S32x2048, .i32⟩
  | 104 => ⟨S32x2048, .i32⟩
  | 105 => ⟨S_, .i32⟩
  | 106 => ⟨S32x2048, .i32⟩
  | 107 => ⟨S32x2048, .i32⟩
  | 108 => ⟨S32x2048, .i32⟩
  | 109 => ⟨S32x2048, .i32⟩
  | 110 => ⟨S32x2048, .i32⟩
  | 111 => ⟨S_, .i32⟩
  | 112 => ⟨S32x2048, .i32⟩
  | 113 => ⟨S32x2048, .i32⟩
  | 114 => ⟨S_, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S32x2048, .i32⟩
  | 121 => ⟨S32x2048, .i32⟩
  | 122 => ⟨S32x2048, .i32⟩
  | 123 => ⟨S_, .i32⟩
  | 124 => ⟨S32x2048, .i32⟩
  | 125 => ⟨S32x2048, .i32⟩
  | 126 => ⟨S32x2048, .i32⟩
  | 127 => ⟨S1, .i32⟩
  | _ => ⟨S32x1000x2048, .f32⟩

abbrev hbmTy0_8 (i : Nat) : BufTy := match i % 128 with
  | 0 => ⟨S_, .i32⟩
  | 1 => ⟨S1, .i32⟩
  | 2 => ⟨S_, .i32⟩
  | 3 => ⟨S32x2048, .i64⟩
  | 4 => ⟨S32x2048, .i64⟩
  | 5 => ⟨S_, .i64⟩
  | 6 => ⟨S32x2048, .i64⟩
  | 7 => ⟨S32x2048, .i64⟩
  | 8 => ⟨S_, .i64⟩
  | 9 => ⟨S32x2048, .i64⟩
  | 10 => ⟨S32x2048, .i64⟩
  | 11 => ⟨S32x2048, .i64⟩
  | 12 => ⟨S_, .i64⟩
  | 13 => ⟨S32x2048, .i64⟩
  | 14 => ⟨S32x2048, .i64⟩
  | 15 => ⟨S32x2048, .i32⟩
  | 16 => ⟨S32x2048, .i32⟩
  | 17 => ⟨S_, .i32⟩
  | 18 => ⟨S_, .i32⟩
  | 19 => ⟨S_, .i32⟩
  | 20 => ⟨S32x2048, .i32⟩
  | 21 => ⟨S32x2048, .i32⟩
  | 22 => ⟨S32x2048, .i32⟩
  | 23 => ⟨S32x2048, .i32⟩
  | 24 => ⟨S32x2048, .i32⟩
  | 25 => ⟨S_, .i32⟩
  | 26 => ⟨S32x2048, .i32⟩
  | 27 => ⟨S32x2048, .i32⟩
  | 28 => ⟨S_, .i32⟩
  | 29 => ⟨S32x2048, .i32⟩
  | 30 => ⟨S32x2048, .i32⟩
  | 31 => ⟨S32x2048, .i32⟩
  | 32 => ⟨S32x2048, .i32⟩
  | 33 => ⟨S32x2048, .i32⟩
  | 34 => ⟨S_, .i32⟩
  | 35 => ⟨S32x2048, .i32⟩
  | 36 => ⟨S32x2048, .i32⟩
  | 37 => ⟨S_, .i32⟩
  | 38 => ⟨S32x2048, .i32⟩
  | 39 => ⟨S32x2048, .i32⟩
  | 40 => ⟨S32x2048, .i32⟩
  | 41 => ⟨S32x2048, .i32⟩
  | 42 => ⟨S32x2048, .i32⟩
  | 43 => ⟨S_, .i32⟩
  | 44 => ⟨S32x2048, .i32⟩
  | 45 => ⟨S32x2048, .i32⟩
  | 46 => ⟨S_, .i32⟩
  | 47 => ⟨S32x2048, .i32⟩
  | 48 => ⟨S32x2048, .i32⟩
  | 49 => ⟨S32x2048, .i32⟩
  | 50 => ⟨S32x2048, .i32⟩
  | 51 => ⟨S32x2048, .i32⟩
  | 52 => ⟨S_, .i32⟩
  | 53 => ⟨S32x2048, .i32⟩
  | 54 => ⟨S32x2048, .i32⟩
  | 55 => ⟨S_, .i32⟩
  | 56 => ⟨S32x2048, .i32⟩
  | 57 => ⟨S32x2048, .i32⟩
  | 58 => ⟨S32x2048, .i32⟩
  | 59 => ⟨S32x2048, .i32⟩
  | 60 => ⟨S32x2048, .i32⟩
  | 61 => ⟨S32x2048, .i32⟩
  | 62 => ⟨S32x2048, .i32⟩
  | 63 => ⟨S32x2048, .i32⟩
  | 64 => ⟨S_, .i32⟩
  | 65 => ⟨S32x2048, .i32⟩
  | 66 => ⟨S32x2048, .i32⟩
  | 67 => ⟨S32x2048, .i32⟩
  | 68 => ⟨S_, .i32⟩
  | 69 => ⟨S32x2048, .i32⟩
  | 70 => ⟨S32x2048, .i32⟩
  | 71 => ⟨S_, .i32⟩
  | 72 => ⟨S32x2048, .i32⟩
  | 73 => ⟨S32x2048, .i32⟩
  | 74 => ⟨S32x2048, .i32⟩
  | 75 => ⟨S32x2048, .i32⟩
  | 76 => ⟨S32x2048, .i32⟩
  | 77 => ⟨S_, .i32⟩
  | 78 => ⟨S32x2048, .i32⟩
  | 79 => ⟨S32x2048, .i32⟩
  | 80 => ⟨S_, .i32⟩
  | 81 => ⟨S32x2048, .i32⟩
  | 82 => ⟨S32x2048, .i32⟩
  | 83 => ⟨S32x2048, .i32⟩
  | 84 => ⟨S32x2048, .i32⟩
  | 85 => ⟨S32x2048, .i32⟩
  | 86 => ⟨S_, .i32⟩
  | 87 => ⟨S32x2048, .i32⟩
  | 88 => ⟨S32x2048, .i32⟩
  | 89 => ⟨S_, .i32⟩
  | 90 => ⟨S32x2048, .i32⟩
  | 91 => ⟨S32x2048, .i32⟩
  | 92 => ⟨S32x2048, .i32⟩
  | 93 => ⟨S32x2048, .i32⟩
  | 94 => ⟨S32x2048, .i32⟩
  | 95 => ⟨S_, .i32⟩
  | 96 => ⟨S32x2048, .i32⟩
  | 97 => ⟨S32x2048, .i32⟩
  | 98 => ⟨S_, .i32⟩
  | 99 => ⟨S32x2048, .i32⟩
  | 100 => ⟨S32x2048, .i32⟩
  | 101 => ⟨S32x2048, .i32⟩
  | 102 => ⟨S32x2048, .i32⟩
  | 103 => ⟨S32x2048, .i32⟩
  | 104 => ⟨S32x2048, .i32⟩
  | 105 => ⟨S32x2048, .i32⟩
  | 106 => ⟨S32x2048, .i32⟩
  | 107 => ⟨S_, .i32⟩
  | 108 => ⟨S32x2048, .i32⟩
  | 109 => ⟨S32x2048, .i32⟩
  | 110 => ⟨S32x2048, .i32⟩
  | 111 => ⟨S_, .i32⟩
  | 112 => ⟨S32x2048, .i32⟩
  | 113 => ⟨S32x2048, .i32⟩
  | 114 => ⟨S_, .i32⟩
  | 115 => ⟨S32x2048, .i32⟩
  | 116 => ⟨S32x2048, .i32⟩
  | 117 => ⟨S32x2048, .i32⟩
  | 118 => ⟨S32x2048, .i32⟩
  | 119 => ⟨S32x2048, .i32⟩
  | 120 => ⟨S_, .i32⟩
  | 121 => ⟨S32x2048, .i32⟩
  | 122 => ⟨S32x2048, .i32⟩
  | 123 => ⟨S_, .i32⟩
  | 124 => ⟨S32x2048, .i32⟩
  | 125 => ⟨S32x2048, .i32⟩
  | 126 => ⟨S32x2048, .i32⟩
  | 127 => ⟨S32x2048, .i32⟩
  | _ => ⟨S32x1000x2048, .f32⟩

abbrev hbmTy0_9 (i : Nat) : BufTy := match i % 128 with
  | 0 => ⟨S32x2048, .i32⟩
  | 1 => ⟨S_, .i32⟩
  | 2 => ⟨S32x2048, .i32⟩
  | 3 => ⟨S32x2048, .i32⟩
  | 4 => ⟨S_, .i32⟩
  | 5 => ⟨S32x2048, .i32⟩
  | 6 => ⟨S32x2048, .i32⟩
  | 7 => ⟨S32x2048, .i32⟩
  | 8 => ⟨S32x2048, .i32⟩
  | 9 => ⟨S32x2048, .i32⟩
  | 10 => ⟨S_, .i32⟩
  | 11 => ⟨S32x2048, .i32⟩
  | 12 => ⟨S32x2048, .i32⟩
  | 13 => ⟨S_, .i32⟩
  | 14 => ⟨S32x2048, .i32⟩
  | 15 => ⟨S32x2048, .i32⟩
  | 16 => ⟨S32x2048, .i32⟩
  | 17 => ⟨S32x2048, .i32⟩
  | 18 => ⟨S32x2048, .i32⟩
  | 19 => ⟨S32x2048, .i32⟩
  | 20 => ⟨S32x2048, .i32⟩
  | 21 => ⟨S32x2048, .i32⟩
  | 22 => ⟨S_, .i32⟩
  | 23 => ⟨S32x2048, .i32⟩
  | 24 => ⟨S32x2048, .i32⟩
  | 25 => ⟨S32x2048, .i32⟩
  | 26 => ⟨S_, .i32⟩
  | 27 => ⟨S32x2048, .i32⟩
  | 28 => ⟨S32x2048, .i32⟩
  | 29 => ⟨S_, .i32⟩
  | 30 => ⟨S32x2048, .i32⟩
  | 31 => ⟨S32x2048, .i32⟩
  | 32 => ⟨S32x2048, .i32⟩
  | 33 => ⟨S32x2048, .i32⟩
  | 34 => ⟨S32x2048, .i32⟩
  | 35 => ⟨S_, .i32⟩
  | 36 => ⟨S32x2048, .i32⟩
  | 37 => ⟨S32x2048, .i32⟩
  | 38 => ⟨S_, .i32⟩
  | 39 => ⟨S32x2048, .i32⟩
  | 40 => ⟨S32x2048, .i32⟩
  | 41 => ⟨S32x2048, .i32⟩
  | 42 => ⟨S32x2048, .i32⟩
  | 43 => ⟨S32x2048, .i32⟩
  | 44 => ⟨S_, .i32⟩
  | 45 => ⟨S32x2048, .i32⟩
  | 46 => ⟨S32x2048, .i32⟩
  | 47 => ⟨S_, .i32⟩
  | 48 => ⟨S32x2048, .i32⟩
  | 49 => ⟨S32x2048, .i32⟩
  | 50 => ⟨S32x2048, .i32⟩
  | 51 => ⟨S32x2048, .i32⟩
  | 52 => ⟨S32x2048, .i32⟩
  | 53 => ⟨S_, .i32⟩
  | 54 => ⟨S32x2048, .i32⟩
  | 55 => ⟨S32x2048, .i32⟩
  | 56 => ⟨S_, .i32⟩
  | 57 => ⟨S32x2048, .i32⟩
  | 58 => ⟨S32x2048, .i32⟩
  | 59 => ⟨S32x2048, .i32⟩
  | 60 => ⟨S32x2048, .i32⟩
  | 61 => ⟨S32x2048, .i32⟩
  | 62 => ⟨S32x2048, .i32⟩
  | 63 => ⟨S32x2048, .i32⟩
  | 64 => ⟨S32x2048, .i32⟩
  | 65 => ⟨S_, .i32⟩
  | 66 => ⟨S32x2048, .i32⟩
  | 67 => ⟨S32x2048, .i32⟩
  | 68 => ⟨S32x2048, .i32⟩
  | 69 => ⟨S_, .i32⟩
  | 70 => ⟨S32x2048, .i32⟩
  | 71 => ⟨S32x2048, .i32⟩
  | 72 => ⟨S_, .i32⟩
  | 73 => ⟨S32x2048, .i32⟩
  | 74 => ⟨S32x2048, .i32⟩
  | 75 => ⟨S32x2048, .i32⟩
  | 76 => ⟨S32x2048, .i32⟩
  | 77 => ⟨S32x2048, .i32⟩
  | 78 => ⟨S_, .i32⟩
  | 79 => ⟨S32x2048, .i32⟩
  | 80 => ⟨S32x2048, .i32⟩
  | 81 => ⟨S_, .i32⟩
  | 82 => ⟨S32x2048, .i32⟩
  | 83 => ⟨S32x2048, .i32⟩
  | 84 => ⟨S32x2048, .i32⟩
  | 85 => ⟨S32x2048, .i32⟩
  | 86 => ⟨S32x2048, .i32⟩
  | 87 => ⟨S_, .i32⟩
  | 88 => ⟨S32x2048, .i32⟩
  | 89 => ⟨S32x2048, .i32⟩
  | 90 => ⟨S_, .i32⟩
  | 91 => ⟨S32x2048, .i32⟩
  | 92 => ⟨S32x2048, .i32⟩
  | 93 => ⟨S32x2048, .i32⟩
  | 94 => ⟨S32x2048, .i32⟩
  | 95 => ⟨S32x2048, .i32⟩
  | 96 => ⟨S_, .i32⟩
  | 97 => ⟨S32x2048, .i32⟩
  | 98 => ⟨S32x2048, .i32⟩
  | 99 => ⟨S_, .i32⟩
  | 100 => ⟨S32x2048, .i32⟩
  | 101 => ⟨S32x2048, .i32⟩
  | 102 => ⟨S32x2048, .i32⟩
  | 103 => ⟨S32x2048, .i32⟩
  | 104 => ⟨S32x2048, .i32⟩
  | 105 => ⟨S32x2048, .i32⟩
  | 106 => ⟨S32x2048, .i32⟩
  | 107 => ⟨S32x2048, .i32⟩
  | 108 => ⟨S_, .i32⟩
  | 109 => ⟨S32x2048, .i32⟩
  | 110 => ⟨S32x2048, .i32⟩
  | 111 => ⟨S32x2048, .i32⟩
  | 112 => ⟨S1x1, .i32⟩
  | 113 => ⟨S1x1, .i32⟩
  | 114 => ⟨S1x1, .i1⟩
  | 115 => ⟨S_, .i32⟩
  | 116 => ⟨S1x1, .i32⟩
  | 117 => ⟨S1x1, .i32⟩
  | 118 => ⟨S1x1, .i1⟩
  | 119 => ⟨S1x1, .i1⟩
  | 120 => ⟨S1x1, .i1⟩
  | 121 => ⟨S_, .i32⟩
  | 122 => ⟨S1x1, .i32⟩
  | 123 => ⟨S1x1, .i32⟩
  | 124 => ⟨S1x1, .i32⟩
  | 125 => ⟨S_, .i32⟩
  | 126 => ⟨S1x1, .i32⟩
  | 127 => ⟨S1x1, .i32⟩
  | _ => ⟨S32x1000x2048, .f32⟩

abbrev hbmTy0_10 (i : Nat) : BufTy := match i % 128 with
  | 0 => ⟨S1x1, .i32⟩
  | 1 => ⟨S1x1, .i32⟩
  | 2 => ⟨S32x2048, .i32⟩
  | 3 => ⟨S32x2048, .i32⟩
  | 4 => ⟨S32x2048, .i32⟩
  | 5 => ⟨S32x2048, .i32⟩
  | 6 => ⟨S32x2048, .i32⟩
  | 7 => ⟨S32x2048, .i32⟩
  | 8 => ⟨S32x2048, .i32⟩
  | 9 => ⟨S32x2048, .i32⟩
  | 10 => ⟨S32x2048, .i32⟩
  | 11 => ⟨S32x2048, .i32⟩
  | 12 => ⟨S32x2048, .i32⟩
  | 13 => ⟨S32x2048, .i32⟩
  | 14 => ⟨S32x2048x1, .i32⟩
  | 15 => ⟨S1x1x1000, .i32⟩
  | 16 => ⟨S32x2048x1000, .i32⟩
  | 17 => ⟨S32x2048x1000, .i32⟩
  | 18 => ⟨S32x2048x1000, .i1⟩
  | 19 => ⟨S32x2048x1000, .f32⟩
  | 20 => ⟨S32x2048x1000, .f32⟩
  | 21 => ⟨S32x2048x1, .i1⟩
  | 22 => ⟨S32x2048x1000, .i1⟩
  | 23 => ⟨S32x2048x1000, .f32⟩
  | 24 => ⟨S32x1000x2048, .f32⟩
  | _ => ⟨S32x1000x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32x1000x2048, .f32⟩

abbrev bufTy : (tb : Table) → Fin (tcTables nBuf tb) → BufTy
  | .hbm, ⟨i, _⟩ => hbmTy i
  | _, _ => ⟨S32x1000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_call1_cst : Ref sig .tc := ⟨.hbm, 254, rfl⟩
abbrev main_call1_cst_0 : Ref sig .tc := ⟨.hbm, 255, rfl⟩
abbrev main_call1_call0_v0 : Ref sig .tc := ⟨.hbm, 256, rfl⟩
abbrev main_call1_call0_v1 : Ref sig .tc := ⟨.hbm, 257, rfl⟩
abbrev main_call1_call0_v2 : Ref sig .tc := ⟨.hbm, 258, rfl⟩
abbrev main_call1_call0_v3 : Ref sig .tc := ⟨.hbm, 259, rfl⟩
abbrev main_call1_call0_v4 : Ref sig .tc := ⟨.hbm, 260, rfl⟩
abbrev main_call1_call0_v5 : Ref sig .tc := ⟨.hbm, 261, rfl⟩
abbrev main_call1_call0_v6 : Ref sig .tc := ⟨.hbm, 262, rfl⟩
abbrev main_call1_call0_v7 : Ref sig .tc := ⟨.hbm, 263, rfl⟩
abbrev main_call1_call0_v8 : Ref sig .tc := ⟨.hbm, 264, rfl⟩
abbrev main_call1_call0_v9 : Ref sig .tc := ⟨.hbm, 265, rfl⟩
abbrev main_call1_call0_c : Ref sig .tc := ⟨.hbm, 266, rfl⟩
abbrev main_call1_call0_v10 : Ref sig .tc := ⟨.hbm, 267, rfl⟩
abbrev main_call1_call0_v11 : Ref sig .tc := ⟨.hbm, 268, rfl⟩
abbrev main_call1_call0_c_0 : Ref sig .tc := ⟨.hbm, 269, rfl⟩
abbrev main_call1_call0_v12 : Ref sig .tc := ⟨.hbm, 270, rfl⟩
abbrev main_call1_call0_v13 : Ref sig .tc := ⟨.hbm, 271, rfl⟩
abbrev main_call1_call0_v14 : Ref sig .tc := ⟨.hbm, 272, rfl⟩
abbrev main_call1_call0_c_1 : Ref sig .tc := ⟨.hbm, 273, rfl⟩
abbrev main_call1_call0_v15 : Ref sig .tc := ⟨.hbm, 274, rfl⟩
abbrev main_call1_call0_v16 : Ref sig .tc := ⟨.hbm, 275, rfl⟩
abbrev main_call1_call0_v17 : Ref sig .tc := ⟨.hbm, 276, rfl⟩
abbrev main_call1_call0_v18 : Ref sig .tc := ⟨.hbm, 277, rfl⟩
abbrev main_call1_call0_call0_v0 : Ref sig .tc := ⟨.hbm, 278, rfl⟩
abbrev main_call1_call0_call0_c : Ref sig .tc := ⟨.hbm, 279, rfl⟩
abbrev main_call1_call0_call0_v1 : Ref sig .tc := ⟨.hbm, 280, rfl⟩
abbrev main_call1_call0_call0_v2 : Ref sig .tc := ⟨.hbm, 281, rfl⟩
abbrev main_call1_call0_call0_v3 : Ref sig .tc := ⟨.hbm, 282, rfl⟩
abbrev main_call1_call0_call0_v4 : Ref sig .tc := ⟨.hbm, 283, rfl⟩
abbrev main_call1_call0_call0_v5 : Ref sig .tc := ⟨.hbm, 284, rfl⟩
abbrev main_call1_call0_call0_v6 : Ref sig .tc := ⟨.hbm, 285, rfl⟩
abbrev main_call1_call0_call0_c_0 : Ref sig .tc := ⟨.hbm, 286, rfl⟩
abbrev main_call1_call0_call0_v7 : Ref sig .tc := ⟨.hbm, 287, rfl⟩
abbrev main_call1_call0_call0_v8 : Ref sig .tc := ⟨.hbm, 288, rfl⟩
abbrev main_call1_call0_call0_c_1 : Ref sig .tc := ⟨.hbm, 289, rfl⟩
abbrev main_call1_call0_call0_v9 : Ref sig .tc := ⟨.hbm, 290, rfl⟩
abbrev main_call1_call0_call0_v10 : Ref sig .tc := ⟨.hbm, 291, rfl⟩
abbrev main_call1_call0_call0_v11 : Ref sig .tc := ⟨.hbm, 292, rfl⟩
abbrev main_call1_call0_call0_v12 : Ref sig .tc := ⟨.hbm, 293, rfl⟩
abbrev main_call1_call0_call0_v13 : Ref sig .tc := ⟨.hbm, 294, rfl⟩
abbrev main_call1_call0_call0_c_2 : Ref sig .tc := ⟨.hbm, 295, rfl⟩
abbrev main_call1_call0_call0_v14 : Ref sig .tc := ⟨.hbm, 296, rfl⟩
abbrev main_call1_call0_call0_v15 : Ref sig .tc := ⟨.hbm, 297, rfl⟩
abbrev main_call1_call0_call0_c_3 : Ref sig .tc := ⟨.hbm, 298, rfl⟩
abbrev main_call1_call0_call0_v16 : Ref sig .tc := ⟨.hbm, 299, rfl⟩
abbrev main_call1_call0_call0_v17 : Ref sig .tc := ⟨.hbm, 300, rfl⟩
abbrev main_call1_call0_call0_v18 : Ref sig .tc := ⟨.hbm, 301, rfl⟩
abbrev main_call1_call0_call0_v19 : Ref sig .tc := ⟨.hbm, 302, rfl⟩
abbrev main_call1_call0_call0_v20 : Ref sig .tc := ⟨.hbm, 303, rfl⟩
abbrev main_call1_call0_call0_c_4 : Ref sig .tc := ⟨.hbm, 304, rfl⟩
abbrev main_call1_call0_call0_v21 : Ref sig .tc := ⟨.hbm, 305, rfl⟩
abbrev main_call1_call0_call0_v22 : Ref sig .tc := ⟨.hbm, 306, rfl⟩
abbrev main_call1_call0_call0_c_5 : Ref sig .tc := ⟨.hbm, 307, rfl⟩
abbrev main_call1_call0_call0_v23 : Ref sig .tc := ⟨.hbm, 308, rfl⟩
abbrev main_call1_call0_call0_v24 : Ref sig .tc := ⟨.hbm, 309, rfl⟩
abbrev main_call1_call0_call0_v25 : Ref sig .tc := ⟨.hbm, 310, rfl⟩
abbrev main_call1_call0_call0_v26 : Ref sig .tc := ⟨.hbm, 311, rfl⟩
abbrev main_call1_call0_call0_v27 : Ref sig .tc := ⟨.hbm, 312, rfl⟩
abbrev main_call1_call0_call0_c_6 : Ref sig .tc := ⟨.hbm, 313, rfl⟩
abbrev main_call1_call0_call0_v28 : Ref sig .tc := ⟨.hbm, 314, rfl⟩
abbrev main_call1_call0_call0_v29 : Ref sig .tc := ⟨.hbm, 315, rfl⟩
abbrev main_call1_call0_call0_c_7 : Ref sig .tc := ⟨.hbm, 316, rfl⟩
abbrev main_call1_call0_call0_v30 : Ref sig .tc := ⟨.hbm, 317, rfl⟩
abbrev main_call1_call0_call0_v31 : Ref sig .tc := ⟨.hbm, 318, rfl⟩
abbrev main_call1_call0_call0_v32 : Ref sig .tc := ⟨.hbm, 319, rfl⟩
abbrev main_call1_call0_call0_v33 : Ref sig .tc := ⟨.hbm, 320, rfl⟩
abbrev main_call1_call0_call0_v34 : Ref sig .tc := ⟨.hbm, 321, rfl⟩
abbrev main_call1_call0_call0_v35 : Ref sig .tc := ⟨.hbm, 322, rfl⟩
abbrev main_call1_call0_call0_v36 : Ref sig .tc := ⟨.hbm, 323, rfl⟩
abbrev main_call1_call0_call0_v37 : Ref sig .tc := ⟨.hbm, 324, rfl⟩
abbrev main_call1_call0_call0_c_8 : Ref sig .tc := ⟨.hbm, 325, rfl⟩
abbrev main_call1_call0_call0_v38 : Ref sig .tc := ⟨.hbm, 326, rfl⟩
abbrev main_call1_call0_call0_v39 : Ref sig .tc := ⟨.hbm, 327, rfl⟩
abbrev main_call1_call0_call0_v40 : Ref sig .tc := ⟨.hbm, 328, rfl⟩
abbrev main_call1_call0_call0_c_9 : Ref sig .tc := ⟨.hbm, 329, rfl⟩
abbrev main_call1_call0_call0_v41 : Ref sig .tc := ⟨.hbm, 330, rfl⟩
abbrev main_call1_call0_call0_v42 : Ref sig .tc := ⟨.hbm, 331, rfl⟩
abbrev main_call1_call0_call0_c_10 : Ref sig .tc := ⟨.hbm, 332, rfl⟩
abbrev main_call1_call0_call0_v43 : Ref sig .tc := ⟨.hbm, 333, rfl⟩
abbrev main_call1_call0_call0_v44 : Ref sig .tc := ⟨.hbm, 334, rfl⟩
abbrev main_call1_call0_call0_v45 : Ref sig .tc := ⟨.hbm, 335, rfl⟩
abbrev main_call1_call0_call0_v46 : Ref sig .tc := ⟨.hbm, 336, rfl⟩
abbrev main_call1_call0_call0_v47 : Ref sig .tc := ⟨.hbm, 337, rfl⟩
abbrev main_call1_call0_call0_c_11 : Ref sig .tc := ⟨.hbm, 338, rfl⟩
abbrev main_call1_call0_call0_v48 : Ref sig .tc := ⟨.hbm, 339, rfl⟩
abbrev main_call1_call0_call0_v49 : Ref sig .tc := ⟨.hbm, 340, rfl⟩
abbrev main_call1_call0_call0_c_12 : Ref sig .tc := ⟨.hbm, 341, rfl⟩
abbrev main_call1_call0_call0_v50 : Ref sig .tc := ⟨.hbm, 342, rfl⟩
abbrev main_call1_call0_call0_v51 : Ref sig .tc := ⟨.hbm, 343, rfl⟩
abbrev main_call1_call0_call0_v52 : Ref sig .tc := ⟨.hbm, 344, rfl⟩
abbrev main_call1_call0_call0_v53 : Ref sig .tc := ⟨.hbm, 345, rfl⟩
abbrev main_call1_call0_call0_v54 : Ref sig .tc := ⟨.hbm, 346, rfl⟩
abbrev main_call1_call0_call0_c_13 : Ref sig .tc := ⟨.hbm, 347, rfl⟩
abbrev main_call1_call0_call0_v55 : Ref sig .tc := ⟨.hbm, 348, rfl⟩
abbrev main_call1_call0_call0_v56 : Ref sig .tc := ⟨.hbm, 349, rfl⟩
abbrev main_call1_call0_call0_c_14 : Ref sig .tc := ⟨.hbm, 350, rfl⟩
abbrev main_call1_call0_call0_v57 : Ref sig .tc := ⟨.hbm, 351, rfl⟩
abbrev main_call1_call0_call0_v58 : Ref sig .tc := ⟨.hbm, 352, rfl⟩
abbrev main_call1_call0_call0_v59 : Ref sig .tc := ⟨.hbm, 353, rfl⟩
abbrev main_call1_call0_call0_v60 : Ref sig .tc := ⟨.hbm, 354, rfl⟩
abbrev main_call1_call0_call0_v61 : Ref sig .tc := ⟨.hbm, 355, rfl⟩
abbrev main_call1_call0_call0_c_15 : Ref sig .tc := ⟨.hbm, 356, rfl⟩
abbrev main_call1_call0_call0_v62 : Ref sig .tc := ⟨.hbm, 357, rfl⟩
abbrev main_call1_call0_call0_v63 : Ref sig .tc := ⟨.hbm, 358, rfl⟩
abbrev main_call1_call0_call0_c_16 : Ref sig .tc := ⟨.hbm, 359, rfl⟩
abbrev main_call1_call0_call0_v64 : Ref sig .tc := ⟨.hbm, 360, rfl⟩
abbrev main_call1_call0_call0_v65 : Ref sig .tc := ⟨.hbm, 361, rfl⟩
abbrev main_call1_call0_call0_v66 : Ref sig .tc := ⟨.hbm, 362, rfl⟩
abbrev main_call1_call0_call0_v67 : Ref sig .tc := ⟨.hbm, 363, rfl⟩
abbrev main_call1_call0_call0_v68 : Ref sig .tc := ⟨.hbm, 364, rfl⟩
abbrev main_call1_call0_call0_v69 : Ref sig .tc := ⟨.hbm, 365, rfl⟩
abbrev main_call1_call0_call0_v70 : Ref sig .tc := ⟨.hbm, 366, rfl⟩
abbrev main_call1_call0_call0_v71 : Ref sig .tc := ⟨.hbm, 367, rfl⟩
abbrev main_call1_call0_call0_c_17 : Ref sig .tc := ⟨.hbm, 368, rfl⟩
abbrev main_call1_call0_call0_v72 : Ref sig .tc := ⟨.hbm, 369, rfl⟩
abbrev main_call1_call0_call0_v73 : Ref sig .tc := ⟨.hbm, 370, rfl⟩
abbrev main_call1_call0_call0_v74 : Ref sig .tc := ⟨.hbm, 371, rfl⟩
abbrev main_call1_call0_call0_c_18 : Ref sig .tc := ⟨.hbm, 372, rfl⟩
abbrev main_call1_call0_call0_v75 : Ref sig .tc := ⟨.hbm, 373, rfl⟩
abbrev main_call1_call0_call0_v76 : Ref sig .tc := ⟨.hbm, 374, rfl⟩
abbrev main_call1_call0_call0_c_19 : Ref sig .tc := ⟨.hbm, 375, rfl⟩
abbrev main_call1_call0_call0_v77 : Ref sig .tc := ⟨.hbm, 376, rfl⟩
abbrev main_call1_call0_call0_v78 : Ref sig .tc := ⟨.hbm, 377, rfl⟩
abbrev main_call1_call0_call0_v79 : Ref sig .tc := ⟨.hbm, 378, rfl⟩
abbrev main_call1_call0_call0_v80 : Ref sig .tc := ⟨.hbm, 379, rfl⟩
abbrev main_call1_call0_call0_v81 : Ref sig .tc := ⟨.hbm, 380, rfl⟩
abbrev main_call1_call0_call0_c_20 : Ref sig .tc := ⟨.hbm, 381, rfl⟩
abbrev main_call1_call0_call0_v82 : Ref sig .tc := ⟨.hbm, 382, rfl⟩
abbrev main_call1_call0_call0_v83 : Ref sig .tc := ⟨.hbm, 383, rfl⟩
abbrev main_call1_call0_call0_c_21 : Ref sig .tc := ⟨.hbm, 384, rfl⟩
abbrev main_call1_call0_call0_v84 : Ref sig .tc := ⟨.hbm, 385, rfl⟩
abbrev main_call1_call0_call0_v85 : Ref sig .tc := ⟨.hbm, 386, rfl⟩
abbrev main_call1_call0_call0_v86 : Ref sig .tc := ⟨.hbm, 387, rfl⟩
abbrev main_call1_call0_call0_v87 : Ref sig .tc := ⟨.hbm, 388, rfl⟩
abbrev main_call1_call0_call0_v88 : Ref sig .tc := ⟨.hbm, 389, rfl⟩
abbrev main_call1_call0_call0_c_22 : Ref sig .tc := ⟨.hbm, 390, rfl⟩
abbrev main_call1_call0_call0_v89 : Ref sig .tc := ⟨.hbm, 391, rfl⟩
abbrev main_call1_call0_call0_v90 : Ref sig .tc := ⟨.hbm, 392, rfl⟩
abbrev main_call1_call0_call0_c_23 : Ref sig .tc := ⟨.hbm, 393, rfl⟩
abbrev main_call1_call0_call0_v91 : Ref sig .tc := ⟨.hbm, 394, rfl⟩
abbrev main_call1_call0_call0_v92 : Ref sig .tc := ⟨.hbm, 395, rfl⟩
abbrev main_call1_call0_call0_v93 : Ref sig .tc := ⟨.hbm, 396, rfl⟩
abbrev main_call1_call0_call0_v94 : Ref sig .tc := ⟨.hbm, 397, rfl⟩
abbrev main_call1_call0_call0_v95 : Ref sig .tc := ⟨.hbm, 398, rfl⟩
abbrev main_call1_call0_call0_c_24 : Ref sig .tc := ⟨.hbm, 399, rfl⟩
abbrev main_call1_call0_call0_v96 : Ref sig .tc := ⟨.hbm, 400, rfl⟩
abbrev main_call1_call0_call0_v97 : Ref sig .tc := ⟨.hbm, 401, rfl⟩
abbrev main_call1_call0_call0_c_25 : Ref sig .tc := ⟨.hbm, 402, rfl⟩
abbrev main_call1_call0_call0_v98 : Ref sig .tc := ⟨.hbm, 403, rfl⟩
abbrev main_call1_call0_call0_v99 : Ref sig .tc := ⟨.hbm, 404, rfl⟩
abbrev main_call1_call0_call0_v100 : Ref sig .tc := ⟨.hbm, 405, rfl⟩
abbrev main_call1_call0_call0_v101 : Ref sig .tc := ⟨.hbm, 406, rfl⟩
abbrev main_call1_call0_call0_v102 : Ref sig .tc := ⟨.hbm, 407, rfl⟩
abbrev main_call1_call0_call0_v103 : Ref sig .tc := ⟨.hbm, 408, rfl⟩
abbrev main_call1_call0_call0_v104 : Ref sig .tc := ⟨.hbm, 409, rfl⟩
abbrev main_call1_call0_call0_v105 : Ref sig .tc := ⟨.hbm, 410, rfl⟩
abbrev main_call1_call0_call0_c_26 : Ref sig .tc := ⟨.hbm, 411, rfl⟩
abbrev main_call1_call0_call0_v106 : Ref sig .tc := ⟨.hbm, 412, rfl⟩
abbrev main_call1_call0_call0_v107 : Ref sig .tc := ⟨.hbm, 413, rfl⟩
abbrev main_call1_call0_call0_v108 : Ref sig .tc := ⟨.hbm, 414, rfl⟩
abbrev main_call1_call0_call0_c_27 : Ref sig .tc := ⟨.hbm, 415, rfl⟩
abbrev main_call1_call0_call0_v109 : Ref sig .tc := ⟨.hbm, 416, rfl⟩
abbrev main_call1_call0_call0_v110 : Ref sig .tc := ⟨.hbm, 417, rfl⟩
abbrev main_call1_call0_call0_c_28 : Ref sig .tc := ⟨.hbm, 418, rfl⟩
abbrev main_call1_call0_call0_v111 : Ref sig .tc := ⟨.hbm, 419, rfl⟩
abbrev main_call1_call0_call0_v112 : Ref sig .tc := ⟨.hbm, 420, rfl⟩
abbrev main_call1_call0_call0_v113 : Ref sig .tc := ⟨.hbm, 421, rfl⟩
abbrev main_call1_call0_call0_v114 : Ref sig .tc := ⟨.hbm, 422, rfl⟩
abbrev main_call1_call0_call0_v115 : Ref sig .tc := ⟨.hbm, 423, rfl⟩
abbrev main_call1_call0_call0_c_29 : Ref sig .tc := ⟨.hbm, 424, rfl⟩
abbrev main_call1_call0_call0_v116 : Ref sig .tc := ⟨.hbm, 425, rfl⟩
abbrev main_call1_call0_call0_v117 : Ref sig .tc := ⟨.hbm, 426, rfl⟩
abbrev main_call1_call0_call0_c_30 : Ref sig .tc := ⟨.hbm, 427, rfl⟩
abbrev main_call1_call0_call0_v118 : Ref sig .tc := ⟨.hbm, 428, rfl⟩
abbrev main_call1_call0_call0_v119 : Ref sig .tc := ⟨.hbm, 429, rfl⟩
abbrev main_call1_call0_call0_v120 : Ref sig .tc := ⟨.hbm, 430, rfl⟩
abbrev main_call1_call0_call0_v121 : Ref sig .tc := ⟨.hbm, 431, rfl⟩
abbrev main_call1_call0_call0_v122 : Ref sig .tc := ⟨.hbm, 432, rfl⟩
abbrev main_call1_call0_call0_c_31 : Ref sig .tc := ⟨.hbm, 433, rfl⟩
abbrev main_call1_call0_call0_v123 : Ref sig .tc := ⟨.hbm, 434, rfl⟩
abbrev main_call1_call0_call0_v124 : Ref sig .tc := ⟨.hbm, 435, rfl⟩
abbrev main_call1_call0_call0_c_32 : Ref sig .tc := ⟨.hbm, 436, rfl⟩
abbrev main_call1_call0_call0_v125 : Ref sig .tc := ⟨.hbm, 437, rfl⟩
abbrev main_call1_call0_call0_v126 : Ref sig .tc := ⟨.hbm, 438, rfl⟩
abbrev main_call1_call0_call0_v127 : Ref sig .tc := ⟨.hbm, 439, rfl⟩
abbrev main_call1_call0_call0_v128 : Ref sig .tc := ⟨.hbm, 440, rfl⟩
abbrev main_call1_call0_call0_v129 : Ref sig .tc := ⟨.hbm, 441, rfl⟩
abbrev main_call1_call0_call0_c_33 : Ref sig .tc := ⟨.hbm, 442, rfl⟩
abbrev main_call1_call0_call0_v130 : Ref sig .tc := ⟨.hbm, 443, rfl⟩
abbrev main_call1_call0_call0_v131 : Ref sig .tc := ⟨.hbm, 444, rfl⟩
abbrev main_call1_call0_call0_c_34 : Ref sig .tc := ⟨.hbm, 445, rfl⟩
abbrev main_call1_call0_call0_v132 : Ref sig .tc := ⟨.hbm, 446, rfl⟩
abbrev main_call1_call0_call0_v133 : Ref sig .tc := ⟨.hbm, 447, rfl⟩
abbrev main_call1_call0_call0_v134 : Ref sig .tc := ⟨.hbm, 448, rfl⟩
abbrev main_call1_call0_call0_v135 : Ref sig .tc := ⟨.hbm, 449, rfl⟩
abbrev main_call1_call0_call0_v136 : Ref sig .tc := ⟨.hbm, 450, rfl⟩
abbrev main_call1_call0_call0_v137 : Ref sig .tc := ⟨.hbm, 451, rfl⟩
abbrev main_call1_call0_call0_v138 : Ref sig .tc := ⟨.hbm, 452, rfl⟩
abbrev main_call1_call0_call0_v139 : Ref sig .tc := ⟨.hbm, 453, rfl⟩
abbrev main_call1_call0_call0_c_35 : Ref sig .tc := ⟨.hbm, 454, rfl⟩
abbrev main_call1_call0_call0_v140 : Ref sig .tc := ⟨.hbm, 455, rfl⟩
abbrev main_call1_call0_call0_v141 : Ref sig .tc := ⟨.hbm, 456, rfl⟩
abbrev main_call1_call0_call0_v142 : Ref sig .tc := ⟨.hbm, 457, rfl⟩
abbrev main_call1_call0_call0_c_36 : Ref sig .tc := ⟨.hbm, 458, rfl⟩
abbrev main_call1_call0_call0_v143 : Ref sig .tc := ⟨.hbm, 459, rfl⟩
abbrev main_call1_call0_call0_v144 : Ref sig .tc := ⟨.hbm, 460, rfl⟩
abbrev main_call1_call0_call0_c_37 : Ref sig .tc := ⟨.hbm, 461, rfl⟩
abbrev main_call1_call0_call0_v145 : Ref sig .tc := ⟨.hbm, 462, rfl⟩
abbrev main_call1_call0_call0_v146 : Ref sig .tc := ⟨.hbm, 463, rfl⟩
abbrev main_call1_call0_call0_v147 : Ref sig .tc := ⟨.hbm, 464, rfl⟩
abbrev main_call1_call0_call0_v148 : Ref sig .tc := ⟨.hbm, 465, rfl⟩
abbrev main_call1_call0_call0_v149 : Ref sig .tc := ⟨.hbm, 466, rfl⟩
abbrev main_call1_call0_call0_c_38 : Ref sig .tc := ⟨.hbm, 467, rfl⟩
abbrev main_call1_call0_call0_v150 : Ref sig .tc := ⟨.hbm, 468, rfl⟩
abbrev main_call1_call0_call0_v151 : Ref sig .tc := ⟨.hbm, 469, rfl⟩
abbrev main_call1_call0_call0_c_39 : Ref sig .tc := ⟨.hbm, 470, rfl⟩
abbrev main_call1_call0_call0_v152 : Ref sig .tc := ⟨.hbm, 471, rfl⟩
abbrev main_call1_call0_call0_v153 : Ref sig .tc := ⟨.hbm, 472, rfl⟩
abbrev main_call1_call0_call0_v154 : Ref sig .tc := ⟨.hbm, 473, rfl⟩
abbrev main_call1_call0_call0_v155 : Ref sig .tc := ⟨.hbm, 474, rfl⟩
abbrev main_call1_call0_call0_v156 : Ref sig .tc := ⟨.hbm, 475, rfl⟩
abbrev main_call1_call0_call0_c_40 : Ref sig .tc := ⟨.hbm, 476, rfl⟩
abbrev main_call1_call0_call0_v157 : Ref sig .tc := ⟨.hbm, 477, rfl⟩
abbrev main_call1_call0_call0_v158 : Ref sig .tc := ⟨.hbm, 478, rfl⟩
abbrev main_call1_call0_call0_c_41 : Ref sig .tc := ⟨.hbm, 479, rfl⟩
abbrev main_call1_call0_call0_v159 : Ref sig .tc := ⟨.hbm, 480, rfl⟩
abbrev main_call1_call0_call0_v160 : Ref sig .tc := ⟨.hbm, 481, rfl⟩
abbrev main_call1_call0_call0_v161 : Ref sig .tc := ⟨.hbm, 482, rfl⟩
abbrev main_call1_call0_call0_v162 : Ref sig .tc := ⟨.hbm, 483, rfl⟩
abbrev main_call1_call0_call0_v163 : Ref sig .tc := ⟨.hbm, 484, rfl⟩
abbrev main_call1_call0_call0_c_42 : Ref sig .tc := ⟨.hbm, 485, rfl⟩
abbrev main_call1_call0_call0_v164 : Ref sig .tc := ⟨.hbm, 486, rfl⟩
abbrev main_call1_call0_call0_v165 : Ref sig .tc := ⟨.hbm, 487, rfl⟩
abbrev main_call1_call0_call0_c_43 : Ref sig .tc := ⟨.hbm, 488, rfl⟩
abbrev main_call1_call0_call0_v166 : Ref sig .tc := ⟨.hbm, 489, rfl⟩
abbrev main_call1_call0_call0_v167 : Ref sig .tc := ⟨.hbm, 490, rfl⟩
abbrev main_call1_call0_call0_v168 : Ref sig .tc := ⟨.hbm, 491, rfl⟩
abbrev main_call1_call0_call0_v169 : Ref sig .tc := ⟨.hbm, 492, rfl⟩
abbrev main_call1_call0_call0_v170 : Ref sig .tc := ⟨.hbm, 493, rfl⟩
abbrev main_call1_call0_v19_0 : Ref sig .tc := ⟨.hbm, 494, rfl⟩
abbrev main_call1_call0_call0_v172 : Ref sig .tc := ⟨.hbm, 495, rfl⟩
abbrev main_call1_call0_call0_v173 : Ref sig .tc := ⟨.hbm, 496, rfl⟩
abbrev main_call1_call0_call0_c_44 : Ref sig .tc := ⟨.hbm, 497, rfl⟩
abbrev main_call1_call0_call0_v174 : Ref sig .tc := ⟨.hbm, 498, rfl⟩
abbrev main_call1_call0_v19_1 : Ref sig .tc := ⟨.hbm, 499, rfl⟩
abbrev main_call1_call0_v20 : Ref sig .tc := ⟨.hbm, 500, rfl⟩
abbrev main_call1_call0_c_2 : Ref sig .tc := ⟨.hbm, 501, rfl⟩
abbrev main_call1_call0_v21 : Ref sig .tc := ⟨.hbm, 502, rfl⟩
abbrev main_call1_call0_v22 : Ref sig .tc := ⟨.hbm, 503, rfl⟩
abbrev main_call1_call0_c_3 : Ref sig .tc := ⟨.hbm, 504, rfl⟩
abbrev main_call1_call0_v23 : Ref sig .tc := ⟨.hbm, 505, rfl⟩
abbrev main_call1_call0_v24 : Ref sig .tc := ⟨.hbm, 506, rfl⟩
abbrev main_call1_call0_v25 : Ref sig .tc := ⟨.hbm, 507, rfl⟩
abbrev main_call1_call0_cst : Ref sig .tc := ⟨.hbm, 508, rfl⟩
abbrev main_call1_call0_v26 : Ref sig .tc := ⟨.hbm, 509, rfl⟩
abbrev main_call1_call0_v27 : Ref sig .tc := ⟨.hbm, 510, rfl⟩
abbrev main_call1_call0_v28 : Ref sig .tc := ⟨.hbm, 511, rfl⟩
abbrev main_call1_call0_v29 : Ref sig .tc := ⟨.hbm, 512, rfl⟩
abbrev main_call1_call0_v30 : Ref sig .tc := ⟨.hbm, 513, rfl⟩
abbrev main_call1_call0_v31 : Ref sig .tc := ⟨.hbm, 514, rfl⟩
abbrev main_call1_call0_v32 : Ref sig .tc := ⟨.hbm, 515, rfl⟩
abbrev main_call1_call0_v33 : Ref sig .tc := ⟨.hbm, 516, rfl⟩
abbrev main_call1_v0 : Ref sig .tc := ⟨.hbm, 517, rfl⟩
abbrev main_call1_v1 : Ref sig .tc := ⟨.hbm, 518, rfl⟩
abbrev main_v12 : Ref sig .tc := ⟨.hbm, 519, rfl⟩
abbrev main_c_2 : Ref sig .tc := ⟨.hbm, 520, rfl⟩
abbrev main_c_3 : Ref sig .tc := ⟨.hbm, 521, rfl⟩
abbrev main_call2_c : Ref sig .tc := ⟨.hbm, 522, rfl⟩
abbrev main_call2_c_0 : Ref sig .tc := ⟨.hbm, 523, rfl⟩
abbrev main_call2_c_1 : Ref sig .tc := ⟨.hbm, 524, rfl⟩
abbrev main_call2_call0_v0 : Ref sig .tc := ⟨.hbm, 525, rfl⟩
abbrev main_call2_v0 : Ref sig .tc := ⟨.hbm, 526, rfl⟩
abbrev main_call2_v1 : Ref sig .tc := ⟨.hbm, 527, rfl⟩
abbrev main_call2_c_2 : Ref sig .tc := ⟨.hbm, 528, rfl⟩
abbrev main_call2_c_3 : Ref sig .tc := ⟨.hbm, 529, rfl⟩
abbrev main_call2_call1_v0 : Ref sig .tc := ⟨.hbm, 530, rfl⟩
abbrev main_call2_v2 : Ref sig .tc := ⟨.hbm, 531, rfl⟩
abbrev main_call2_v3 : Ref sig .tc := ⟨.hbm, 532, rfl⟩
abbrev main_call2_c_4 : Ref sig .tc := ⟨.hbm, 533, rfl⟩
abbrev main_call2_c_5 : Ref sig .tc := ⟨.hbm, 534, rfl⟩
abbrev main_call2_call2_v0 : Ref sig .tc := ⟨.hbm, 535, rfl⟩
abbrev main_call2_v4 : Ref sig .tc := ⟨.hbm, 536, rfl⟩
abbrev main_call2_v5 : Ref sig .tc := ⟨.hbm, 537, rfl⟩
abbrev main_call2_v6 : Ref sig .tc := ⟨.hbm, 538, rfl⟩
abbrev main_call2_v7 : Ref sig .tc := ⟨.hbm, 539, rfl⟩
abbrev main_call2_call3_v0 : Ref sig .tc := ⟨.hbm, 540, rfl⟩
abbrev main_call2_call3_v1 : Ref sig .tc := ⟨.hbm, 541, rfl⟩
abbrev main_call2_call3_v2 : Ref sig .tc := ⟨.hbm, 542, rfl⟩
abbrev main_call2_call3_v3 : Ref sig .tc := ⟨.hbm, 543, rfl⟩
abbrev main_call2_call3_v4 : Ref sig .tc := ⟨.hbm, 544, rfl⟩
abbrev main_call2_call3_c : Ref sig .tc := ⟨.hbm, 545, rfl⟩
abbrev main_call2_call3_v5 : Ref sig .tc := ⟨.hbm, 546, rfl⟩
abbrev main_call2_call3_v6 : Ref sig .tc := ⟨.hbm, 547, rfl⟩
abbrev main_call2_call3_c_0 : Ref sig .tc := ⟨.hbm, 548, rfl⟩
abbrev main_call2_call3_v7 : Ref sig .tc := ⟨.hbm, 549, rfl⟩
abbrev main_call2_call3_v8 : Ref sig .tc := ⟨.hbm, 550, rfl⟩
abbrev main_call2_call3_v9 : Ref sig .tc := ⟨.hbm, 551, rfl⟩
abbrev main_call2_call3_v10 : Ref sig .tc := ⟨.hbm, 552, rfl⟩
abbrev main_call2_call3_call0_v0 : Ref sig .tc := ⟨.hbm, 553, rfl⟩
abbrev main_call2_call3_call0_c : Ref sig .tc := ⟨.hbm, 554, rfl⟩
abbrev main_call2_call3_call0_v1 : Ref sig .tc := ⟨.hbm, 555, rfl⟩
abbrev main_call2_call3_call0_v2 : Ref sig .tc := ⟨.hbm, 556, rfl⟩
abbrev main_call2_call3_call0_v3 : Ref sig .tc := ⟨.hbm, 557, rfl⟩
abbrev main_call2_call3_call0_v4 : Ref sig .tc := ⟨.hbm, 558, rfl⟩
abbrev main_call2_call3_call0_v5 : Ref sig .tc := ⟨.hbm, 559, rfl⟩
abbrev main_call2_call3_call0_v6 : Ref sig .tc := ⟨.hbm, 560, rfl⟩
abbrev main_call2_call3_call0_c_0 : Ref sig .tc := ⟨.hbm, 561, rfl⟩
abbrev main_call2_call3_call0_v7 : Ref sig .tc := ⟨.hbm, 562, rfl⟩
abbrev main_call2_call3_call0_v8 : Ref sig .tc := ⟨.hbm, 563, rfl⟩
abbrev main_call2_call3_call0_c_1 : Ref sig .tc := ⟨.hbm, 564, rfl⟩
abbrev main_call2_call3_call0_v9 : Ref sig .tc := ⟨.hbm, 565, rfl⟩
abbrev main_call2_call3_call0_v10 : Ref sig .tc := ⟨.hbm, 566, rfl⟩
abbrev main_call2_call3_call0_v11 : Ref sig .tc := ⟨.hbm, 567, rfl⟩
abbrev main_call2_call3_call0_v12 : Ref sig .tc := ⟨.hbm, 568, rfl⟩
abbrev main_call2_call3_call0_v13 : Ref sig .tc := ⟨.hbm, 569, rfl⟩
abbrev main_call2_call3_call0_c_2 : Ref sig .tc := ⟨.hbm, 570, rfl⟩
abbrev main_call2_call3_call0_v14 : Ref sig .tc := ⟨.hbm, 571, rfl⟩
abbrev main_call2_call3_call0_v15 : Ref sig .tc := ⟨.hbm, 572, rfl⟩
abbrev main_call2_call3_call0_c_3 : Ref sig .tc := ⟨.hbm, 573, rfl⟩
abbrev main_call2_call3_call0_v16 : Ref sig .tc := ⟨.hbm, 574, rfl⟩
abbrev main_call2_call3_call0_v17 : Ref sig .tc := ⟨.hbm, 575, rfl⟩
abbrev main_call2_call3_call0_v18 : Ref sig .tc := ⟨.hbm, 576, rfl⟩
abbrev main_call2_call3_call0_v19 : Ref sig .tc := ⟨.hbm, 577, rfl⟩
abbrev main_call2_call3_call0_v20 : Ref sig .tc := ⟨.hbm, 578, rfl⟩
abbrev main_call2_call3_call0_c_4 : Ref sig .tc := ⟨.hbm, 579, rfl⟩
abbrev main_call2_call3_call0_v21 : Ref sig .tc := ⟨.hbm, 580, rfl⟩
abbrev main_call2_call3_call0_v22 : Ref sig .tc := ⟨.hbm, 581, rfl⟩
abbrev main_call2_call3_call0_c_5 : Ref sig .tc := ⟨.hbm, 582, rfl⟩
abbrev main_call2_call3_call0_v23 : Ref sig .tc := ⟨.hbm, 583, rfl⟩
abbrev main_call2_call3_call0_v24 : Ref sig .tc := ⟨.hbm, 584, rfl⟩
abbrev main_call2_call3_call0_v25 : Ref sig .tc := ⟨.hbm, 585, rfl⟩
abbrev main_call2_call3_call0_v26 : Ref sig .tc := ⟨.hbm, 586, rfl⟩
abbrev main_call2_call3_call0_v27 : Ref sig .tc := ⟨.hbm, 587, rfl⟩
abbrev main_call2_call3_call0_c_6 : Ref sig .tc := ⟨.hbm, 588, rfl⟩
abbrev main_call2_call3_call0_v28 : Ref sig .tc := ⟨.hbm, 589, rfl⟩
abbrev main_call2_call3_call0_v29 : Ref sig .tc := ⟨.hbm, 590, rfl⟩
abbrev main_call2_call3_call0_c_7 : Ref sig .tc := ⟨.hbm, 591, rfl⟩
abbrev main_call2_call3_call0_v30 : Ref sig .tc := ⟨.hbm, 592, rfl⟩
abbrev main_call2_call3_call0_v31 : Ref sig .tc := ⟨.hbm, 593, rfl⟩
abbrev main_call2_call3_call0_v32 : Ref sig .tc := ⟨.hbm, 594, rfl⟩
abbrev main_call2_call3_call0_v33 : Ref sig .tc := ⟨.hbm, 595, rfl⟩
abbrev main_call2_call3_call0_v34 : Ref sig .tc := ⟨.hbm, 596, rfl⟩
abbrev main_call2_call3_call0_v35 : Ref sig .tc := ⟨.hbm, 597, rfl⟩
abbrev main_call2_call3_call0_v36 : Ref sig .tc := ⟨.hbm, 598, rfl⟩
abbrev main_call2_call3_call0_v37 : Ref sig .tc := ⟨.hbm, 599, rfl⟩
abbrev main_call2_call3_call0_c_8 : Ref sig .tc := ⟨.hbm, 600, rfl⟩
abbrev main_call2_call3_call0_v38 : Ref sig .tc := ⟨.hbm, 601, rfl⟩
abbrev main_call2_call3_call0_v39 : Ref sig .tc := ⟨.hbm, 602, rfl⟩
abbrev main_call2_call3_call0_v40 : Ref sig .tc := ⟨.hbm, 603, rfl⟩
abbrev main_call2_call3_call0_c_9 : Ref sig .tc := ⟨.hbm, 604, rfl⟩
abbrev main_call2_call3_call0_v41 : Ref sig .tc := ⟨.hbm, 605, rfl⟩
abbrev main_call2_call3_call0_v42 : Ref sig .tc := ⟨.hbm, 606, rfl⟩
abbrev main_call2_call3_call0_c_10 : Ref sig .tc := ⟨.hbm, 607, rfl⟩
abbrev main_call2_call3_call0_v43 : Ref sig .tc := ⟨.hbm, 608, rfl⟩
abbrev main_call2_call3_call0_v44 : Ref sig .tc := ⟨.hbm, 609, rfl⟩
abbrev main_call2_call3_call0_v45 : Ref sig .tc := ⟨.hbm, 610, rfl⟩
abbrev main_call2_call3_call0_v46 : Ref sig .tc := ⟨.hbm, 611, rfl⟩
abbrev main_call2_call3_call0_v47 : Ref sig .tc := ⟨.hbm, 612, rfl⟩
abbrev main_call2_call3_call0_c_11 : Ref sig .tc := ⟨.hbm, 613, rfl⟩
abbrev main_call2_call3_call0_v48 : Ref sig .tc := ⟨.hbm, 614, rfl⟩
abbrev main_call2_call3_call0_v49 : Ref sig .tc := ⟨.hbm, 615, rfl⟩
abbrev main_call2_call3_call0_c_12 : Ref sig .tc := ⟨.hbm, 616, rfl⟩
abbrev main_call2_call3_call0_v50 : Ref sig .tc := ⟨.hbm, 617, rfl⟩
abbrev main_call2_call3_call0_v51 : Ref sig .tc := ⟨.hbm, 618, rfl⟩
abbrev main_call2_call3_call0_v52 : Ref sig .tc := ⟨.hbm, 619, rfl⟩
abbrev main_call2_call3_call0_v53 : Ref sig .tc := ⟨.hbm, 620, rfl⟩
abbrev main_call2_call3_call0_v54 : Ref sig .tc := ⟨.hbm, 621, rfl⟩
abbrev main_call2_call3_call0_c_13 : Ref sig .tc := ⟨.hbm, 622, rfl⟩
abbrev main_call2_call3_call0_v55 : Ref sig .tc := ⟨.hbm, 623, rfl⟩
abbrev main_call2_call3_call0_v56 : Ref sig .tc := ⟨.hbm, 624, rfl⟩
abbrev main_call2_call3_call0_c_14 : Ref sig .tc := ⟨.hbm, 625, rfl⟩
abbrev main_call2_call3_call0_v57 : Ref sig .tc := ⟨.hbm, 626, rfl⟩
abbrev main_call2_call3_call0_v58 : Ref sig .tc := ⟨.hbm, 627, rfl⟩
abbrev main_call2_call3_call0_v59 : Ref sig .tc := ⟨.hbm, 628, rfl⟩
abbrev main_call2_call3_call0_v60 : Ref sig .tc := ⟨.hbm, 629, rfl⟩
abbrev main_call2_call3_call0_v61 : Ref sig .tc := ⟨.hbm, 630, rfl⟩
abbrev main_call2_call3_call0_c_15 : Ref sig .tc := ⟨.hbm, 631, rfl⟩
abbrev main_call2_call3_call0_v62 : Ref sig .tc := ⟨.hbm, 632, rfl⟩
abbrev main_call2_call3_call0_v63 : Ref sig .tc := ⟨.hbm, 633, rfl⟩
abbrev main_call2_call3_call0_c_16 : Ref sig .tc := ⟨.hbm, 634, rfl⟩
abbrev main_call2_call3_call0_v64 : Ref sig .tc := ⟨.hbm, 635, rfl⟩
abbrev main_call2_call3_call0_v65 : Ref sig .tc := ⟨.hbm, 636, rfl⟩
abbrev main_call2_call3_call0_v66 : Ref sig .tc := ⟨.hbm, 637, rfl⟩
abbrev main_call2_call3_call0_v67 : Ref sig .tc := ⟨.hbm, 638, rfl⟩
abbrev main_call2_call3_call0_v68 : Ref sig .tc := ⟨.hbm, 639, rfl⟩
abbrev main_call2_call3_call0_v69 : Ref sig .tc := ⟨.hbm, 640, rfl⟩
abbrev main_call2_call3_call0_v70 : Ref sig .tc := ⟨.hbm, 641, rfl⟩
abbrev main_call2_call3_call0_v71 : Ref sig .tc := ⟨.hbm, 642, rfl⟩
abbrev main_call2_call3_call0_c_17 : Ref sig .tc := ⟨.hbm, 643, rfl⟩
abbrev main_call2_call3_call0_v72 : Ref sig .tc := ⟨.hbm, 644, rfl⟩
abbrev main_call2_call3_call0_v73 : Ref sig .tc := ⟨.hbm, 645, rfl⟩
abbrev main_call2_call3_call0_v74 : Ref sig .tc := ⟨.hbm, 646, rfl⟩
abbrev main_call2_call3_call0_c_18 : Ref sig .tc := ⟨.hbm, 647, rfl⟩
abbrev main_call2_call3_call0_v75 : Ref sig .tc := ⟨.hbm, 648, rfl⟩
abbrev main_call2_call3_call0_v76 : Ref sig .tc := ⟨.hbm, 649, rfl⟩
abbrev main_call2_call3_call0_c_19 : Ref sig .tc := ⟨.hbm, 650, rfl⟩
abbrev main_call2_call3_call0_v77 : Ref sig .tc := ⟨.hbm, 651, rfl⟩
abbrev main_call2_call3_call0_v78 : Ref sig .tc := ⟨.hbm, 652, rfl⟩
abbrev main_call2_call3_call0_v79 : Ref sig .tc := ⟨.hbm, 653, rfl⟩
abbrev main_call2_call3_call0_v80 : Ref sig .tc := ⟨.hbm, 654, rfl⟩
abbrev main_call2_call3_call0_v81 : Ref sig .tc := ⟨.hbm, 655, rfl⟩
abbrev main_call2_call3_call0_c_20 : Ref sig .tc := ⟨.hbm, 656, rfl⟩
abbrev main_call2_call3_call0_v82 : Ref sig .tc := ⟨.hbm, 657, rfl⟩
abbrev main_call2_call3_call0_v83 : Ref sig .tc := ⟨.hbm, 658, rfl⟩
abbrev main_call2_call3_call0_c_21 : Ref sig .tc := ⟨.hbm, 659, rfl⟩
abbrev main_call2_call3_call0_v84 : Ref sig .tc := ⟨.hbm, 660, rfl⟩
abbrev main_call2_call3_call0_v85 : Ref sig .tc := ⟨.hbm, 661, rfl⟩
abbrev main_call2_call3_call0_v86 : Ref sig .tc := ⟨.hbm, 662, rfl⟩
abbrev main_call2_call3_call0_v87 : Ref sig .tc := ⟨.hbm, 663, rfl⟩
abbrev main_call2_call3_call0_v88 : Ref sig .tc := ⟨.hbm, 664, rfl⟩
abbrev main_call2_call3_call0_c_22 : Ref sig .tc := ⟨.hbm, 665, rfl⟩
abbrev main_call2_call3_call0_v89 : Ref sig .tc := ⟨.hbm, 666, rfl⟩
abbrev main_call2_call3_call0_v90 : Ref sig .tc := ⟨.hbm, 667, rfl⟩
abbrev main_call2_call3_call0_c_23 : Ref sig .tc := ⟨.hbm, 668, rfl⟩
abbrev main_call2_call3_call0_v91 : Ref sig .tc := ⟨.hbm, 669, rfl⟩
abbrev main_call2_call3_call0_v92 : Ref sig .tc := ⟨.hbm, 670, rfl⟩
abbrev main_call2_call3_call0_v93 : Ref sig .tc := ⟨.hbm, 671, rfl⟩
abbrev main_call2_call3_call0_v94 : Ref sig .tc := ⟨.hbm, 672, rfl⟩
abbrev main_call2_call3_call0_v95 : Ref sig .tc := ⟨.hbm, 673, rfl⟩
abbrev main_call2_call3_call0_c_24 : Ref sig .tc := ⟨.hbm, 674, rfl⟩
abbrev main_call2_call3_call0_v96 : Ref sig .tc := ⟨.hbm, 675, rfl⟩
abbrev main_call2_call3_call0_v97 : Ref sig .tc := ⟨.hbm, 676, rfl⟩
abbrev main_call2_call3_call0_c_25 : Ref sig .tc := ⟨.hbm, 677, rfl⟩
abbrev main_call2_call3_call0_v98 : Ref sig .tc := ⟨.hbm, 678, rfl⟩
abbrev main_call2_call3_call0_v99 : Ref sig .tc := ⟨.hbm, 679, rfl⟩
abbrev main_call2_call3_call0_v100 : Ref sig .tc := ⟨.hbm, 680, rfl⟩
abbrev main_call2_call3_call0_v101 : Ref sig .tc := ⟨.hbm, 681, rfl⟩
abbrev main_call2_call3_call0_v102 : Ref sig .tc := ⟨.hbm, 682, rfl⟩
abbrev main_call2_call3_call0_v103 : Ref sig .tc := ⟨.hbm, 683, rfl⟩
abbrev main_call2_call3_call0_v104 : Ref sig .tc := ⟨.hbm, 684, rfl⟩
abbrev main_call2_call3_call0_v105 : Ref sig .tc := ⟨.hbm, 685, rfl⟩
abbrev main_call2_call3_call0_c_26 : Ref sig .tc := ⟨.hbm, 686, rfl⟩
abbrev main_call2_call3_call0_v106 : Ref sig .tc := ⟨.hbm, 687, rfl⟩
abbrev main_call2_call3_call0_v107 : Ref sig .tc := ⟨.hbm, 688, rfl⟩
abbrev main_call2_call3_call0_v108 : Ref sig .tc := ⟨.hbm, 689, rfl⟩
abbrev main_call2_call3_call0_c_27 : Ref sig .tc := ⟨.hbm, 690, rfl⟩
abbrev main_call2_call3_call0_v109 : Ref sig .tc := ⟨.hbm, 691, rfl⟩
abbrev main_call2_call3_call0_v110 : Ref sig .tc := ⟨.hbm, 692, rfl⟩
abbrev main_call2_call3_call0_c_28 : Ref sig .tc := ⟨.hbm, 693, rfl⟩
abbrev main_call2_call3_call0_v111 : Ref sig .tc := ⟨.hbm, 694, rfl⟩
abbrev main_call2_call3_call0_v112 : Ref sig .tc := ⟨.hbm, 695, rfl⟩
abbrev main_call2_call3_call0_v113 : Ref sig .tc := ⟨.hbm, 696, rfl⟩
abbrev main_call2_call3_call0_v114 : Ref sig .tc := ⟨.hbm, 697, rfl⟩
abbrev main_call2_call3_call0_v115 : Ref sig .tc := ⟨.hbm, 698, rfl⟩
abbrev main_call2_call3_call0_c_29 : Ref sig .tc := ⟨.hbm, 699, rfl⟩
abbrev main_call2_call3_call0_v116 : Ref sig .tc := ⟨.hbm, 700, rfl⟩
abbrev main_call2_call3_call0_v117 : Ref sig .tc := ⟨.hbm, 701, rfl⟩
abbrev main_call2_call3_call0_c_30 : Ref sig .tc := ⟨.hbm, 702, rfl⟩
abbrev main_call2_call3_call0_v118 : Ref sig .tc := ⟨.hbm, 703, rfl⟩
abbrev main_call2_call3_call0_v119 : Ref sig .tc := ⟨.hbm, 704, rfl⟩
abbrev main_call2_call3_call0_v120 : Ref sig .tc := ⟨.hbm, 705, rfl⟩
abbrev main_call2_call3_call0_v121 : Ref sig .tc := ⟨.hbm, 706, rfl⟩
abbrev main_call2_call3_call0_v122 : Ref sig .tc := ⟨.hbm, 707, rfl⟩
abbrev main_call2_call3_call0_c_31 : Ref sig .tc := ⟨.hbm, 708, rfl⟩
abbrev main_call2_call3_call0_v123 : Ref sig .tc := ⟨.hbm, 709, rfl⟩
abbrev main_call2_call3_call0_v124 : Ref sig .tc := ⟨.hbm, 710, rfl⟩
abbrev main_call2_call3_call0_c_32 : Ref sig .tc := ⟨.hbm, 711, rfl⟩
abbrev main_call2_call3_call0_v125 : Ref sig .tc := ⟨.hbm, 712, rfl⟩
abbrev main_call2_call3_call0_v126 : Ref sig .tc := ⟨.hbm, 713, rfl⟩
abbrev main_call2_call3_call0_v127 : Ref sig .tc := ⟨.hbm, 714, rfl⟩
abbrev main_call2_call3_call0_v128 : Ref sig .tc := ⟨.hbm, 715, rfl⟩
abbrev main_call2_call3_call0_v129 : Ref sig .tc := ⟨.hbm, 716, rfl⟩
abbrev main_call2_call3_call0_c_33 : Ref sig .tc := ⟨.hbm, 717, rfl⟩
abbrev main_call2_call3_call0_v130 : Ref sig .tc := ⟨.hbm, 718, rfl⟩
abbrev main_call2_call3_call0_v131 : Ref sig .tc := ⟨.hbm, 719, rfl⟩
abbrev main_call2_call3_call0_c_34 : Ref sig .tc := ⟨.hbm, 720, rfl⟩
abbrev main_call2_call3_call0_v132 : Ref sig .tc := ⟨.hbm, 721, rfl⟩
abbrev main_call2_call3_call0_v133 : Ref sig .tc := ⟨.hbm, 722, rfl⟩
abbrev main_call2_call3_call0_v134 : Ref sig .tc := ⟨.hbm, 723, rfl⟩
abbrev main_call2_call3_call0_v135 : Ref sig .tc := ⟨.hbm, 724, rfl⟩
abbrev main_call2_call3_call0_v136 : Ref sig .tc := ⟨.hbm, 725, rfl⟩
abbrev main_call2_call3_call0_v137 : Ref sig .tc := ⟨.hbm, 726, rfl⟩
abbrev main_call2_call3_call0_v138 : Ref sig .tc := ⟨.hbm, 727, rfl⟩
abbrev main_call2_call3_call0_v139 : Ref sig .tc := ⟨.hbm, 728, rfl⟩
abbrev main_call2_call3_call0_c_35 : Ref sig .tc := ⟨.hbm, 729, rfl⟩
abbrev main_call2_call3_call0_v140 : Ref sig .tc := ⟨.hbm, 730, rfl⟩
abbrev main_call2_call3_call0_v141 : Ref sig .tc := ⟨.hbm, 731, rfl⟩
abbrev main_call2_call3_call0_v142 : Ref sig .tc := ⟨.hbm, 732, rfl⟩
abbrev main_call2_call3_call0_c_36 : Ref sig .tc := ⟨.hbm, 733, rfl⟩
abbrev main_call2_call3_call0_v143 : Ref sig .tc := ⟨.hbm, 734, rfl⟩
abbrev main_call2_call3_call0_v144 : Ref sig .tc := ⟨.hbm, 735, rfl⟩
abbrev main_call2_call3_call0_c_37 : Ref sig .tc := ⟨.hbm, 736, rfl⟩
abbrev main_call2_call3_call0_v145 : Ref sig .tc := ⟨.hbm, 737, rfl⟩
abbrev main_call2_call3_call0_v146 : Ref sig .tc := ⟨.hbm, 738, rfl⟩
abbrev main_call2_call3_call0_v147 : Ref sig .tc := ⟨.hbm, 739, rfl⟩
abbrev main_call2_call3_call0_v148 : Ref sig .tc := ⟨.hbm, 740, rfl⟩
abbrev main_call2_call3_call0_v149 : Ref sig .tc := ⟨.hbm, 741, rfl⟩
abbrev main_call2_call3_call0_c_38 : Ref sig .tc := ⟨.hbm, 742, rfl⟩
abbrev main_call2_call3_call0_v150 : Ref sig .tc := ⟨.hbm, 743, rfl⟩
abbrev main_call2_call3_call0_v151 : Ref sig .tc := ⟨.hbm, 744, rfl⟩
abbrev main_call2_call3_call0_c_39 : Ref sig .tc := ⟨.hbm, 745, rfl⟩
abbrev main_call2_call3_call0_v152 : Ref sig .tc := ⟨.hbm, 746, rfl⟩
abbrev main_call2_call3_call0_v153 : Ref sig .tc := ⟨.hbm, 747, rfl⟩
abbrev main_call2_call3_call0_v154 : Ref sig .tc := ⟨.hbm, 748, rfl⟩
abbrev main_call2_call3_call0_v155 : Ref sig .tc := ⟨.hbm, 749, rfl⟩
abbrev main_call2_call3_call0_v156 : Ref sig .tc := ⟨.hbm, 750, rfl⟩
abbrev main_call2_call3_call0_c_40 : Ref sig .tc := ⟨.hbm, 751, rfl⟩
abbrev main_call2_call3_call0_v157 : Ref sig .tc := ⟨.hbm, 752, rfl⟩
abbrev main_call2_call3_call0_v158 : Ref sig .tc := ⟨.hbm, 753, rfl⟩
abbrev main_call2_call3_call0_c_41 : Ref sig .tc := ⟨.hbm, 754, rfl⟩
abbrev main_call2_call3_call0_v159 : Ref sig .tc := ⟨.hbm, 755, rfl⟩
abbrev main_call2_call3_call0_v160 : Ref sig .tc := ⟨.hbm, 756, rfl⟩
abbrev main_call2_call3_call0_v161 : Ref sig .tc := ⟨.hbm, 757, rfl⟩
abbrev main_call2_call3_call0_v162 : Ref sig .tc := ⟨.hbm, 758, rfl⟩
abbrev main_call2_call3_call0_v163 : Ref sig .tc := ⟨.hbm, 759, rfl⟩
abbrev main_call2_call3_call0_c_42 : Ref sig .tc := ⟨.hbm, 760, rfl⟩
abbrev main_call2_call3_call0_v164 : Ref sig .tc := ⟨.hbm, 761, rfl⟩
abbrev main_call2_call3_call0_v165 : Ref sig .tc := ⟨.hbm, 762, rfl⟩
abbrev main_call2_call3_call0_c_43 : Ref sig .tc := ⟨.hbm, 763, rfl⟩
abbrev main_call2_call3_call0_v166 : Ref sig .tc := ⟨.hbm, 764, rfl⟩
abbrev main_call2_call3_call0_v167 : Ref sig .tc := ⟨.hbm, 765, rfl⟩
abbrev main_call2_call3_call0_v168 : Ref sig .tc := ⟨.hbm, 766, rfl⟩
abbrev main_call2_call3_call0_v169 : Ref sig .tc := ⟨.hbm, 767, rfl⟩
abbrev main_call2_call3_call0_v170 : Ref sig .tc := ⟨.hbm, 768, rfl⟩
abbrev main_call2_call3_v11_0 : Ref sig .tc := ⟨.hbm, 769, rfl⟩
abbrev main_call2_call3_call0_v172 : Ref sig .tc := ⟨.hbm, 770, rfl⟩
abbrev main_call2_call3_call0_v173 : Ref sig .tc := ⟨.hbm, 771, rfl⟩
abbrev main_call2_call3_call0_c_44 : Ref sig .tc := ⟨.hbm, 772, rfl⟩
abbrev main_call2_call3_call0_v174 : Ref sig .tc := ⟨.hbm, 773, rfl⟩
abbrev main_call2_call3_v11_1 : Ref sig .tc := ⟨.hbm, 774, rfl⟩
abbrev main_call2_call3_v12 : Ref sig .tc := ⟨.hbm, 775, rfl⟩
abbrev main_call2_call3_v13 : Ref sig .tc := ⟨.hbm, 776, rfl⟩
abbrev main_call2_v8 : Ref sig .tc := ⟨.hbm, 777, rfl⟩
abbrev main_call2_v9 : Ref sig .tc := ⟨.hbm, 778, rfl⟩
abbrev main_call2_v10 : Ref sig .tc := ⟨.hbm, 779, rfl⟩
abbrev main_call2_v11 : Ref sig .tc := ⟨.hbm, 780, rfl⟩
abbrev main_call2_v12 : Ref sig .tc := ⟨.hbm, 781, rfl⟩
abbrev main_call2_v13 : Ref sig .tc := ⟨.hbm, 782, rfl⟩
abbrev main_call2_v14 : Ref sig .tc := ⟨.hbm, 783, rfl⟩
abbrev main_call2_v15 : Ref sig .tc := ⟨.hbm, 784, rfl⟩
abbrev main_call2_v16 : Ref sig .tc := ⟨.hbm, 785, rfl⟩
abbrev main_call2_v17 : Ref sig .tc := ⟨.hbm, 786, rfl⟩
abbrev main_call2_v18 : Ref sig .tc := ⟨.hbm, 787, rfl⟩
abbrev main_call2_c_6 : Ref sig .tc := ⟨.hbm, 788, rfl⟩
abbrev main_call2_v19 : Ref sig .tc := ⟨.hbm, 789, rfl⟩
abbrev main_call2_v20 : Ref sig .tc := ⟨.hbm, 790, rfl⟩
abbrev main_call2_c_7 : Ref sig .tc := ⟨.hbm, 791, rfl⟩
abbrev main_call2_v21 : Ref sig .tc := ⟨.hbm, 792, rfl⟩
abbrev main_call2_v22 : Ref sig .tc := ⟨.hbm, 793, rfl⟩
abbrev main_call2_v23 : Ref sig .tc := ⟨.hbm, 794, rfl⟩
abbrev main_call2_c_8 : Ref sig .tc := ⟨.hbm, 795, rfl⟩
abbrev main_call2_v24 : Ref sig .tc := ⟨.hbm, 796, rfl⟩
abbrev main_call2_v25 : Ref sig .tc := ⟨.hbm, 797, rfl⟩
abbrev main_call2_v26 : Ref sig .tc := ⟨.hbm, 798, rfl⟩
abbrev main_call2_v27 : Ref sig .tc := ⟨.hbm, 799, rfl⟩
abbrev main_call2_call4_v0 : Ref sig .tc := ⟨.hbm, 800, rfl⟩
abbrev main_call2_call4_c : Ref sig .tc := ⟨.hbm, 801, rfl⟩
abbrev main_call2_call4_v1 : Ref sig .tc := ⟨.hbm, 802, rfl⟩
abbrev main_call2_call4_v2 : Ref sig .tc := ⟨.hbm, 803, rfl⟩
abbrev main_call2_call4_v3 : Ref sig .tc := ⟨.hbm, 804, rfl⟩
abbrev main_call2_call4_v4 : Ref sig .tc := ⟨.hbm, 805, rfl⟩
abbrev main_call2_call4_v5 : Ref sig .tc := ⟨.hbm, 806, rfl⟩
abbrev main_call2_call4_v6 : Ref sig .tc := ⟨.hbm, 807, rfl⟩
abbrev main_call2_call4_c_0 : Ref sig .tc := ⟨.hbm, 808, rfl⟩
abbrev main_call2_call4_v7 : Ref sig .tc := ⟨.hbm, 809, rfl⟩
abbrev main_call2_call4_v8 : Ref sig .tc := ⟨.hbm, 810, rfl⟩
abbrev main_call2_call4_c_1 : Ref sig .tc := ⟨.hbm, 811, rfl⟩
abbrev main_call2_call4_v9 : Ref sig .tc := ⟨.hbm, 812, rfl⟩
abbrev main_call2_call4_v10 : Ref sig .tc := ⟨.hbm, 813, rfl⟩
abbrev main_call2_call4_v11 : Ref sig .tc := ⟨.hbm, 814, rfl⟩
abbrev main_call2_call4_v12 : Ref sig .tc := ⟨.hbm, 815, rfl⟩
abbrev main_call2_call4_v13 : Ref sig .tc := ⟨.hbm, 816, rfl⟩
abbrev main_call2_call4_c_2 : Ref sig .tc := ⟨.hbm, 817, rfl⟩
abbrev main_call2_call4_v14 : Ref sig .tc := ⟨.hbm, 818, rfl⟩
abbrev main_call2_call4_v15 : Ref sig .tc := ⟨.hbm, 819, rfl⟩
abbrev main_call2_call4_c_3 : Ref sig .tc := ⟨.hbm, 820, rfl⟩
abbrev main_call2_call4_v16 : Ref sig .tc := ⟨.hbm, 821, rfl⟩
abbrev main_call2_call4_v17 : Ref sig .tc := ⟨.hbm, 822, rfl⟩
abbrev main_call2_call4_v18 : Ref sig .tc := ⟨.hbm, 823, rfl⟩
abbrev main_call2_call4_v19 : Ref sig .tc := ⟨.hbm, 824, rfl⟩
abbrev main_call2_call4_v20 : Ref sig .tc := ⟨.hbm, 825, rfl⟩
abbrev main_call2_call4_c_4 : Ref sig .tc := ⟨.hbm, 826, rfl⟩
abbrev main_call2_call4_v21 : Ref sig .tc := ⟨.hbm, 827, rfl⟩
abbrev main_call2_call4_v22 : Ref sig .tc := ⟨.hbm, 828, rfl⟩
abbrev main_call2_call4_c_5 : Ref sig .tc := ⟨.hbm, 829, rfl⟩
abbrev main_call2_call4_v23 : Ref sig .tc := ⟨.hbm, 830, rfl⟩
abbrev main_call2_call4_v24 : Ref sig .tc := ⟨.hbm, 831, rfl⟩
abbrev main_call2_call4_v25 : Ref sig .tc := ⟨.hbm, 832, rfl⟩
abbrev main_call2_call4_v26 : Ref sig .tc := ⟨.hbm, 833, rfl⟩
abbrev main_call2_call4_v27 : Ref sig .tc := ⟨.hbm, 834, rfl⟩
abbrev main_call2_call4_c_6 : Ref sig .tc := ⟨.hbm, 835, rfl⟩
abbrev main_call2_call4_v28 : Ref sig .tc := ⟨.hbm, 836, rfl⟩
abbrev main_call2_call4_v29 : Ref sig .tc := ⟨.hbm, 837, rfl⟩
abbrev main_call2_call4_c_7 : Ref sig .tc := ⟨.hbm, 838, rfl⟩
abbrev main_call2_call4_v30 : Ref sig .tc := ⟨.hbm, 839, rfl⟩
abbrev main_call2_call4_v31 : Ref sig .tc := ⟨.hbm, 840, rfl⟩
abbrev main_call2_call4_v32 : Ref sig .tc := ⟨.hbm, 841, rfl⟩
abbrev main_call2_call4_v33 : Ref sig .tc := ⟨.hbm, 842, rfl⟩
abbrev main_call2_call4_v34 : Ref sig .tc := ⟨.hbm, 843, rfl⟩
abbrev main_call2_call4_v35 : Ref sig .tc := ⟨.hbm, 844, rfl⟩
abbrev main_call2_call4_v36 : Ref sig .tc := ⟨.hbm, 845, rfl⟩
abbrev main_call2_call4_v37 : Ref sig .tc := ⟨.hbm, 846, rfl⟩
abbrev main_call2_call4_c_8 : Ref sig .tc := ⟨.hbm, 847, rfl⟩
abbrev main_call2_call4_v38 : Ref sig .tc := ⟨.hbm, 848, rfl⟩
abbrev main_call2_call4_v39 : Ref sig .tc := ⟨.hbm, 849, rfl⟩
abbrev main_call2_call4_v40 : Ref sig .tc := ⟨.hbm, 850, rfl⟩
abbrev main_call2_call4_c_9 : Ref sig .tc := ⟨.hbm, 851, rfl⟩
abbrev main_call2_call4_v41 : Ref sig .tc := ⟨.hbm, 852, rfl⟩
abbrev main_call2_call4_v42 : Ref sig .tc := ⟨.hbm, 853, rfl⟩
abbrev main_call2_call4_c_10 : Ref sig .tc := ⟨.hbm, 854, rfl⟩
abbrev main_call2_call4_v43 : Ref sig .tc := ⟨.hbm, 855, rfl⟩
abbrev main_call2_call4_v44 : Ref sig .tc := ⟨.hbm, 856, rfl⟩
abbrev main_call2_call4_v45 : Ref sig .tc := ⟨.hbm, 857, rfl⟩
abbrev main_call2_call4_v46 : Ref sig .tc := ⟨.hbm, 858, rfl⟩
abbrev main_call2_call4_v47 : Ref sig .tc := ⟨.hbm, 859, rfl⟩
abbrev main_call2_call4_c_11 : Ref sig .tc := ⟨.hbm, 860, rfl⟩
abbrev main_call2_call4_v48 : Ref sig .tc := ⟨.hbm, 861, rfl⟩
abbrev main_call2_call4_v49 : Ref sig .tc := ⟨.hbm, 862, rfl⟩
abbrev main_call2_call4_c_12 : Ref sig .tc := ⟨.hbm, 863, rfl⟩
abbrev main_call2_call4_v50 : Ref sig .tc := ⟨.hbm, 864, rfl⟩
abbrev main_call2_call4_v51 : Ref sig .tc := ⟨.hbm, 865, rfl⟩
abbrev main_call2_call4_v52 : Ref sig .tc := ⟨.hbm, 866, rfl⟩
abbrev main_call2_call4_v53 : Ref sig .tc := ⟨.hbm, 867, rfl⟩
abbrev main_call2_call4_v54 : Ref sig .tc := ⟨.hbm, 868, rfl⟩
abbrev main_call2_call4_c_13 : Ref sig .tc := ⟨.hbm, 869, rfl⟩
abbrev main_call2_call4_v55 : Ref sig .tc := ⟨.hbm, 870, rfl⟩
abbrev main_call2_call4_v56 : Ref sig .tc := ⟨.hbm, 871, rfl⟩
abbrev main_call2_call4_c_14 : Ref sig .tc := ⟨.hbm, 872, rfl⟩
abbrev main_call2_call4_v57 : Ref sig .tc := ⟨.hbm, 873, rfl⟩
abbrev main_call2_call4_v58 : Ref sig .tc := ⟨.hbm, 874, rfl⟩
abbrev main_call2_call4_v59 : Ref sig .tc := ⟨.hbm, 875, rfl⟩
abbrev main_call2_call4_v60 : Ref sig .tc := ⟨.hbm, 876, rfl⟩
abbrev main_call2_call4_v61 : Ref sig .tc := ⟨.hbm, 877, rfl⟩
abbrev main_call2_call4_c_15 : Ref sig .tc := ⟨.hbm, 878, rfl⟩
abbrev main_call2_call4_v62 : Ref sig .tc := ⟨.hbm, 879, rfl⟩
abbrev main_call2_call4_v63 : Ref sig .tc := ⟨.hbm, 880, rfl⟩
abbrev main_call2_call4_c_16 : Ref sig .tc := ⟨.hbm, 881, rfl⟩
abbrev main_call2_call4_v64 : Ref sig .tc := ⟨.hbm, 882, rfl⟩
abbrev main_call2_call4_v65 : Ref sig .tc := ⟨.hbm, 883, rfl⟩
abbrev main_call2_call4_v66 : Ref sig .tc := ⟨.hbm, 884, rfl⟩
abbrev main_call2_call4_v67 : Ref sig .tc := ⟨.hbm, 885, rfl⟩
abbrev main_call2_call4_v68 : Ref sig .tc := ⟨.hbm, 886, rfl⟩
abbrev main_call2_call4_v69 : Ref sig .tc := ⟨.hbm, 887, rfl⟩
abbrev main_call2_call4_v70 : Ref sig .tc := ⟨.hbm, 888, rfl⟩
abbrev main_call2_call4_v71 : Ref sig .tc := ⟨.hbm, 889, rfl⟩
abbrev main_call2_call4_c_17 : Ref sig .tc := ⟨.hbm, 890, rfl⟩
abbrev main_call2_call4_v72 : Ref sig .tc := ⟨.hbm, 891, rfl⟩
abbrev main_call2_call4_v73 : Ref sig .tc := ⟨.hbm, 892, rfl⟩
abbrev main_call2_call4_v74 : Ref sig .tc := ⟨.hbm, 893, rfl⟩
abbrev main_call2_call4_c_18 : Ref sig .tc := ⟨.hbm, 894, rfl⟩
abbrev main_call2_call4_v75 : Ref sig .tc := ⟨.hbm, 895, rfl⟩
abbrev main_call2_call4_v76 : Ref sig .tc := ⟨.hbm, 896, rfl⟩
abbrev main_call2_call4_c_19 : Ref sig .tc := ⟨.hbm, 897, rfl⟩
abbrev main_call2_call4_v77 : Ref sig .tc := ⟨.hbm, 898, rfl⟩
abbrev main_call2_call4_v78 : Ref sig .tc := ⟨.hbm, 899, rfl⟩
abbrev main_call2_call4_v79 : Ref sig .tc := ⟨.hbm, 900, rfl⟩
abbrev main_call2_call4_v80 : Ref sig .tc := ⟨.hbm, 901, rfl⟩
abbrev main_call2_call4_v81 : Ref sig .tc := ⟨.hbm, 902, rfl⟩
abbrev main_call2_call4_c_20 : Ref sig .tc := ⟨.hbm, 903, rfl⟩
abbrev main_call2_call4_v82 : Ref sig .tc := ⟨.hbm, 904, rfl⟩
abbrev main_call2_call4_v83 : Ref sig .tc := ⟨.hbm, 905, rfl⟩
abbrev main_call2_call4_c_21 : Ref sig .tc := ⟨.hbm, 906, rfl⟩
abbrev main_call2_call4_v84 : Ref sig .tc := ⟨.hbm, 907, rfl⟩
abbrev main_call2_call4_v85 : Ref sig .tc := ⟨.hbm, 908, rfl⟩
abbrev main_call2_call4_v86 : Ref sig .tc := ⟨.hbm, 909, rfl⟩
abbrev main_call2_call4_v87 : Ref sig .tc := ⟨.hbm, 910, rfl⟩
abbrev main_call2_call4_v88 : Ref sig .tc := ⟨.hbm, 911, rfl⟩
abbrev main_call2_call4_c_22 : Ref sig .tc := ⟨.hbm, 912, rfl⟩
abbrev main_call2_call4_v89 : Ref sig .tc := ⟨.hbm, 913, rfl⟩
abbrev main_call2_call4_v90 : Ref sig .tc := ⟨.hbm, 914, rfl⟩
abbrev main_call2_call4_c_23 : Ref sig .tc := ⟨.hbm, 915, rfl⟩
abbrev main_call2_call4_v91 : Ref sig .tc := ⟨.hbm, 916, rfl⟩
abbrev main_call2_call4_v92 : Ref sig .tc := ⟨.hbm, 917, rfl⟩
abbrev main_call2_call4_v93 : Ref sig .tc := ⟨.hbm, 918, rfl⟩
abbrev main_call2_call4_v94 : Ref sig .tc := ⟨.hbm, 919, rfl⟩
abbrev main_call2_call4_v95 : Ref sig .tc := ⟨.hbm, 920, rfl⟩
abbrev main_call2_call4_c_24 : Ref sig .tc := ⟨.hbm, 921, rfl⟩
abbrev main_call2_call4_v96 : Ref sig .tc := ⟨.hbm, 922, rfl⟩
abbrev main_call2_call4_v97 : Ref sig .tc := ⟨.hbm, 923, rfl⟩
abbrev main_call2_call4_c_25 : Ref sig .tc := ⟨.hbm, 924, rfl⟩
abbrev main_call2_call4_v98 : Ref sig .tc := ⟨.hbm, 925, rfl⟩
abbrev main_call2_call4_v99 : Ref sig .tc := ⟨.hbm, 926, rfl⟩
abbrev main_call2_call4_v100 : Ref sig .tc := ⟨.hbm, 927, rfl⟩
abbrev main_call2_call4_v101 : Ref sig .tc := ⟨.hbm, 928, rfl⟩
abbrev main_call2_call4_v102 : Ref sig .tc := ⟨.hbm, 929, rfl⟩
abbrev main_call2_call4_v103 : Ref sig .tc := ⟨.hbm, 930, rfl⟩
abbrev main_call2_call4_v104 : Ref sig .tc := ⟨.hbm, 931, rfl⟩
abbrev main_call2_call4_v105 : Ref sig .tc := ⟨.hbm, 932, rfl⟩
abbrev main_call2_call4_c_26 : Ref sig .tc := ⟨.hbm, 933, rfl⟩
abbrev main_call2_call4_v106 : Ref sig .tc := ⟨.hbm, 934, rfl⟩
abbrev main_call2_call4_v107 : Ref sig .tc := ⟨.hbm, 935, rfl⟩
abbrev main_call2_call4_v108 : Ref sig .tc := ⟨.hbm, 936, rfl⟩
abbrev main_call2_call4_c_27 : Ref sig .tc := ⟨.hbm, 937, rfl⟩
abbrev main_call2_call4_v109 : Ref sig .tc := ⟨.hbm, 938, rfl⟩
abbrev main_call2_call4_v110 : Ref sig .tc := ⟨.hbm, 939, rfl⟩
abbrev main_call2_call4_c_28 : Ref sig .tc := ⟨.hbm, 940, rfl⟩
abbrev main_call2_call4_v111 : Ref sig .tc := ⟨.hbm, 941, rfl⟩
abbrev main_call2_call4_v112 : Ref sig .tc := ⟨.hbm, 942, rfl⟩
abbrev main_call2_call4_v113 : Ref sig .tc := ⟨.hbm, 943, rfl⟩
abbrev main_call2_call4_v114 : Ref sig .tc := ⟨.hbm, 944, rfl⟩
abbrev main_call2_call4_v115 : Ref sig .tc := ⟨.hbm, 945, rfl⟩
abbrev main_call2_call4_c_29 : Ref sig .tc := ⟨.hbm, 946, rfl⟩
abbrev main_call2_call4_v116 : Ref sig .tc := ⟨.hbm, 947, rfl⟩
abbrev main_call2_call4_v117 : Ref sig .tc := ⟨.hbm, 948, rfl⟩
abbrev main_call2_call4_c_30 : Ref sig .tc := ⟨.hbm, 949, rfl⟩
abbrev main_call2_call4_v118 : Ref sig .tc := ⟨.hbm, 950, rfl⟩
abbrev main_call2_call4_v119 : Ref sig .tc := ⟨.hbm, 951, rfl⟩
abbrev main_call2_call4_v120 : Ref sig .tc := ⟨.hbm, 952, rfl⟩
abbrev main_call2_call4_v121 : Ref sig .tc := ⟨.hbm, 953, rfl⟩
abbrev main_call2_call4_v122 : Ref sig .tc := ⟨.hbm, 954, rfl⟩
abbrev main_call2_call4_c_31 : Ref sig .tc := ⟨.hbm, 955, rfl⟩
abbrev main_call2_call4_v123 : Ref sig .tc := ⟨.hbm, 956, rfl⟩
abbrev main_call2_call4_v124 : Ref sig .tc := ⟨.hbm, 957, rfl⟩
abbrev main_call2_call4_c_32 : Ref sig .tc := ⟨.hbm, 958, rfl⟩
abbrev main_call2_call4_v125 : Ref sig .tc := ⟨.hbm, 959, rfl⟩
abbrev main_call2_call4_v126 : Ref sig .tc := ⟨.hbm, 960, rfl⟩
abbrev main_call2_call4_v127 : Ref sig .tc := ⟨.hbm, 961, rfl⟩
abbrev main_call2_call4_v128 : Ref sig .tc := ⟨.hbm, 962, rfl⟩
abbrev main_call2_call4_v129 : Ref sig .tc := ⟨.hbm, 963, rfl⟩
abbrev main_call2_call4_c_33 : Ref sig .tc := ⟨.hbm, 964, rfl⟩
abbrev main_call2_call4_v130 : Ref sig .tc := ⟨.hbm, 965, rfl⟩
abbrev main_call2_call4_v131 : Ref sig .tc := ⟨.hbm, 966, rfl⟩
abbrev main_call2_call4_c_34 : Ref sig .tc := ⟨.hbm, 967, rfl⟩
abbrev main_call2_call4_v132 : Ref sig .tc := ⟨.hbm, 968, rfl⟩
abbrev main_call2_call4_v133 : Ref sig .tc := ⟨.hbm, 969, rfl⟩
abbrev main_call2_call4_v134 : Ref sig .tc := ⟨.hbm, 970, rfl⟩
abbrev main_call2_call4_v135 : Ref sig .tc := ⟨.hbm, 971, rfl⟩
abbrev main_call2_call4_v136 : Ref sig .tc := ⟨.hbm, 972, rfl⟩
abbrev main_call2_call4_v137 : Ref sig .tc := ⟨.hbm, 973, rfl⟩
abbrev main_call2_call4_v138 : Ref sig .tc := ⟨.hbm, 974, rfl⟩
abbrev main_call2_call4_v139 : Ref sig .tc := ⟨.hbm, 975, rfl⟩
abbrev main_call2_call4_c_35 : Ref sig .tc := ⟨.hbm, 976, rfl⟩
abbrev main_call2_call4_v140 : Ref sig .tc := ⟨.hbm, 977, rfl⟩
abbrev main_call2_call4_v141 : Ref sig .tc := ⟨.hbm, 978, rfl⟩
abbrev main_call2_call4_v142 : Ref sig .tc := ⟨.hbm, 979, rfl⟩
abbrev main_call2_call4_c_36 : Ref sig .tc := ⟨.hbm, 980, rfl⟩
abbrev main_call2_call4_v143 : Ref sig .tc := ⟨.hbm, 981, rfl⟩
abbrev main_call2_call4_v144 : Ref sig .tc := ⟨.hbm, 982, rfl⟩
abbrev main_call2_call4_c_37 : Ref sig .tc := ⟨.hbm, 983, rfl⟩
abbrev main_call2_call4_v145 : Ref sig .tc := ⟨.hbm, 984, rfl⟩
abbrev main_call2_call4_v146 : Ref sig .tc := ⟨.hbm, 985, rfl⟩
abbrev main_call2_call4_v147 : Ref sig .tc := ⟨.hbm, 986, rfl⟩
abbrev main_call2_call4_v148 : Ref sig .tc := ⟨.hbm, 987, rfl⟩
abbrev main_call2_call4_v149 : Ref sig .tc := ⟨.hbm, 988, rfl⟩
abbrev main_call2_call4_c_38 : Ref sig .tc := ⟨.hbm, 989, rfl⟩
abbrev main_call2_call4_v150 : Ref sig .tc := ⟨.hbm, 990, rfl⟩
abbrev main_call2_call4_v151 : Ref sig .tc := ⟨.hbm, 991, rfl⟩
abbrev main_call2_call4_c_39 : Ref sig .tc := ⟨.hbm, 992, rfl⟩
abbrev main_call2_call4_v152 : Ref sig .tc := ⟨.hbm, 993, rfl⟩
abbrev main_call2_call4_v153 : Ref sig .tc := ⟨.hbm, 994, rfl⟩
abbrev main_call2_call4_v154 : Ref sig .tc := ⟨.hbm, 995, rfl⟩
abbrev main_call2_call4_v155 : Ref sig .tc := ⟨.hbm, 996, rfl⟩
abbrev main_call2_call4_v156 : Ref sig .tc := ⟨.hbm, 997, rfl⟩
abbrev main_call2_call4_c_40 : Ref sig .tc := ⟨.hbm, 998, rfl⟩
abbrev main_call2_call4_v157 : Ref sig .tc := ⟨.hbm, 999, rfl⟩
abbrev main_call2_call4_v158 : Ref sig .tc := ⟨.hbm, 1000, rfl⟩
abbrev main_call2_call4_c_41 : Ref sig .tc := ⟨.hbm, 1001, rfl⟩
abbrev main_call2_call4_v159 : Ref sig .tc := ⟨.hbm, 1002, rfl⟩
abbrev main_call2_call4_v160 : Ref sig .tc := ⟨.hbm, 1003, rfl⟩
abbrev main_call2_call4_v161 : Ref sig .tc := ⟨.hbm, 1004, rfl⟩
abbrev main_call2_call4_v162 : Ref sig .tc := ⟨.hbm, 1005, rfl⟩
abbrev main_call2_call4_v163 : Ref sig .tc := ⟨.hbm, 1006, rfl⟩
abbrev main_call2_call4_c_42 : Ref sig .tc := ⟨.hbm, 1007, rfl⟩
abbrev main_call2_call4_v164 : Ref sig .tc := ⟨.hbm, 1008, rfl⟩
abbrev main_call2_call4_v165 : Ref sig .tc := ⟨.hbm, 1009, rfl⟩
abbrev main_call2_call4_c_43 : Ref sig .tc := ⟨.hbm, 1010, rfl⟩
abbrev main_call2_call4_v166 : Ref sig .tc := ⟨.hbm, 1011, rfl⟩
abbrev main_call2_call4_v167 : Ref sig .tc := ⟨.hbm, 1012, rfl⟩
abbrev main_call2_call4_v168 : Ref sig .tc := ⟨.hbm, 1013, rfl⟩
abbrev main_call2_call4_v169 : Ref sig .tc := ⟨.hbm, 1014, rfl⟩
abbrev main_call2_call4_v170 : Ref sig .tc := ⟨.hbm, 1015, rfl⟩
abbrev main_call2_v28_0 : Ref sig .tc := ⟨.hbm, 1016, rfl⟩
abbrev main_call2_call4_v172 : Ref sig .tc := ⟨.hbm, 1017, rfl⟩
abbrev main_call2_call4_v173 : Ref sig .tc := ⟨.hbm, 1018, rfl⟩
abbrev main_call2_call4_c_44 : Ref sig .tc := ⟨.hbm, 1019, rfl⟩
abbrev main_call2_call4_v174 : Ref sig .tc := ⟨.hbm, 1020, rfl⟩
abbrev main_call2_v28_1 : Ref sig .tc := ⟨.hbm, 1021, rfl⟩
abbrev main_call2_v29 : Ref sig .tc := ⟨.hbm, 1022, rfl⟩
abbrev main_call2_v30 : Ref sig .tc := ⟨.hbm, 1023, rfl⟩
abbrev main_call2_v31 : Ref sig .tc := ⟨.hbm, 1024, rfl⟩
abbrev main_call2_v32 : Ref sig .tc := ⟨.hbm, 1025, rfl⟩
abbrev main_call2_v33 : Ref sig .tc := ⟨.hbm, 1026, rfl⟩
abbrev main_call2_v34 : Ref sig .tc := ⟨.hbm, 1027, rfl⟩
abbrev main_call2_v35 : Ref sig .tc := ⟨.hbm, 1028, rfl⟩
abbrev main_call2_c_9 : Ref sig .tc := ⟨.hbm, 1029, rfl⟩
abbrev main_call2_v36 : Ref sig .tc := ⟨.hbm, 1030, rfl⟩
abbrev main_call2_v37 : Ref sig .tc := ⟨.hbm, 1031, rfl⟩
abbrev main_call2_c_10 : Ref sig .tc := ⟨.hbm, 1032, rfl⟩
abbrev main_call2_v38 : Ref sig .tc := ⟨.hbm, 1033, rfl⟩
abbrev main_call2_v39 : Ref sig .tc := ⟨.hbm, 1034, rfl⟩
abbrev main_call2_v40 : Ref sig .tc := ⟨.hbm, 1035, rfl⟩
abbrev main_call2_c_11 : Ref sig .tc := ⟨.hbm, 1036, rfl⟩
abbrev main_call2_v41 : Ref sig .tc := ⟨.hbm, 1037, rfl⟩
abbrev main_call2_v42 : Ref sig .tc := ⟨.hbm, 1038, rfl⟩
abbrev main_call2_v43 : Ref sig .tc := ⟨.hbm, 1039, rfl⟩
abbrev main_call2_v44 : Ref sig .tc := ⟨.hbm, 1040, rfl⟩
abbrev main_call2_call5_v0 : Ref sig .tc := ⟨.hbm, 1041, rfl⟩
abbrev main_call2_call5_c : Ref sig .tc := ⟨.hbm, 1042, rfl⟩
abbrev main_call2_call5_v1 : Ref sig .tc := ⟨.hbm, 1043, rfl⟩
abbrev main_call2_call5_v2 : Ref sig .tc := ⟨.hbm, 1044, rfl⟩
abbrev main_call2_call5_v3 : Ref sig .tc := ⟨.hbm, 1045, rfl⟩
abbrev main_call2_call5_v4 : Ref sig .tc := ⟨.hbm, 1046, rfl⟩
abbrev main_call2_call5_v5 : Ref sig .tc := ⟨.hbm, 1047, rfl⟩
abbrev main_call2_call5_v6 : Ref sig .tc := ⟨.hbm, 1048, rfl⟩
abbrev main_call2_call5_c_0 : Ref sig .tc := ⟨.hbm, 1049, rfl⟩
abbrev main_call2_call5_v7 : Ref sig .tc := ⟨.hbm, 1050, rfl⟩
abbrev main_call2_call5_v8 : Ref sig .tc := ⟨.hbm, 1051, rfl⟩
abbrev main_call2_call5_c_1 : Ref sig .tc := ⟨.hbm, 1052, rfl⟩
abbrev main_call2_call5_v9 : Ref sig .tc := ⟨.hbm, 1053, rfl⟩
abbrev main_call2_call5_v10 : Ref sig .tc := ⟨.hbm, 1054, rfl⟩
abbrev main_call2_call5_v11 : Ref sig .tc := ⟨.hbm, 1055, rfl⟩
abbrev main_call2_call5_v12 : Ref sig .tc := ⟨.hbm, 1056, rfl⟩
abbrev main_call2_call5_v13 : Ref sig .tc := ⟨.hbm, 1057, rfl⟩
abbrev main_call2_call5_c_2 : Ref sig .tc := ⟨.hbm, 1058, rfl⟩
abbrev main_call2_call5_v14 : Ref sig .tc := ⟨.hbm, 1059, rfl⟩
abbrev main_call2_call5_v15 : Ref sig .tc := ⟨.hbm, 1060, rfl⟩
abbrev main_call2_call5_c_3 : Ref sig .tc := ⟨.hbm, 1061, rfl⟩
abbrev main_call2_call5_v16 : Ref sig .tc := ⟨.hbm, 1062, rfl⟩
abbrev main_call2_call5_v17 : Ref sig .tc := ⟨.hbm, 1063, rfl⟩
abbrev main_call2_call5_v18 : Ref sig .tc := ⟨.hbm, 1064, rfl⟩
abbrev main_call2_call5_v19 : Ref sig .tc := ⟨.hbm, 1065, rfl⟩
abbrev main_call2_call5_v20 : Ref sig .tc := ⟨.hbm, 1066, rfl⟩
abbrev main_call2_call5_c_4 : Ref sig .tc := ⟨.hbm, 1067, rfl⟩
abbrev main_call2_call5_v21 : Ref sig .tc := ⟨.hbm, 1068, rfl⟩
abbrev main_call2_call5_v22 : Ref sig .tc := ⟨.hbm, 1069, rfl⟩
abbrev main_call2_call5_c_5 : Ref sig .tc := ⟨.hbm, 1070, rfl⟩
abbrev main_call2_call5_v23 : Ref sig .tc := ⟨.hbm, 1071, rfl⟩
abbrev main_call2_call5_v24 : Ref sig .tc := ⟨.hbm, 1072, rfl⟩
abbrev main_call2_call5_v25 : Ref sig .tc := ⟨.hbm, 1073, rfl⟩
abbrev main_call2_call5_v26 : Ref sig .tc := ⟨.hbm, 1074, rfl⟩
abbrev main_call2_call5_v27 : Ref sig .tc := ⟨.hbm, 1075, rfl⟩
abbrev main_call2_call5_c_6 : Ref sig .tc := ⟨.hbm, 1076, rfl⟩
abbrev main_call2_call5_v28 : Ref sig .tc := ⟨.hbm, 1077, rfl⟩
abbrev main_call2_call5_v29 : Ref sig .tc := ⟨.hbm, 1078, rfl⟩
abbrev main_call2_call5_c_7 : Ref sig .tc := ⟨.hbm, 1079, rfl⟩
abbrev main_call2_call5_v30 : Ref sig .tc := ⟨.hbm, 1080, rfl⟩
abbrev main_call2_call5_v31 : Ref sig .tc := ⟨.hbm, 1081, rfl⟩
abbrev main_call2_call5_v32 : Ref sig .tc := ⟨.hbm, 1082, rfl⟩
abbrev main_call2_call5_v33 : Ref sig .tc := ⟨.hbm, 1083, rfl⟩
abbrev main_call2_call5_v34 : Ref sig .tc := ⟨.hbm, 1084, rfl⟩
abbrev main_call2_call5_v35 : Ref sig .tc := ⟨.hbm, 1085, rfl⟩
abbrev main_call2_call5_v36 : Ref sig .tc := ⟨.hbm, 1086, rfl⟩
abbrev main_call2_call5_v37 : Ref sig .tc := ⟨.hbm, 1087, rfl⟩
abbrev main_call2_call5_c_8 : Ref sig .tc := ⟨.hbm, 1088, rfl⟩
abbrev main_call2_call5_v38 : Ref sig .tc := ⟨.hbm, 1089, rfl⟩
abbrev main_call2_call5_v39 : Ref sig .tc := ⟨.hbm, 1090, rfl⟩
abbrev main_call2_call5_v40 : Ref sig .tc := ⟨.hbm, 1091, rfl⟩
abbrev main_call2_call5_c_9 : Ref sig .tc := ⟨.hbm, 1092, rfl⟩
abbrev main_call2_call5_v41 : Ref sig .tc := ⟨.hbm, 1093, rfl⟩
abbrev main_call2_call5_v42 : Ref sig .tc := ⟨.hbm, 1094, rfl⟩
abbrev main_call2_call5_c_10 : Ref sig .tc := ⟨.hbm, 1095, rfl⟩
abbrev main_call2_call5_v43 : Ref sig .tc := ⟨.hbm, 1096, rfl⟩
abbrev main_call2_call5_v44 : Ref sig .tc := ⟨.hbm, 1097, rfl⟩
abbrev main_call2_call5_v45 : Ref sig .tc := ⟨.hbm, 1098, rfl⟩
abbrev main_call2_call5_v46 : Ref sig .tc := ⟨.hbm, 1099, rfl⟩
abbrev main_call2_call5_v47 : Ref sig .tc := ⟨.hbm, 1100, rfl⟩
abbrev main_call2_call5_c_11 : Ref sig .tc := ⟨.hbm, 1101, rfl⟩
abbrev main_call2_call5_v48 : Ref sig .tc := ⟨.hbm, 1102, rfl⟩
abbrev main_call2_call5_v49 : Ref sig .tc := ⟨.hbm, 1103, rfl⟩
abbrev main_call2_call5_c_12 : Ref sig .tc := ⟨.hbm, 1104, rfl⟩
abbrev main_call2_call5_v50 : Ref sig .tc := ⟨.hbm, 1105, rfl⟩
abbrev main_call2_call5_v51 : Ref sig .tc := ⟨.hbm, 1106, rfl⟩
abbrev main_call2_call5_v52 : Ref sig .tc := ⟨.hbm, 1107, rfl⟩
abbrev main_call2_call5_v53 : Ref sig .tc := ⟨.hbm, 1108, rfl⟩
abbrev main_call2_call5_v54 : Ref sig .tc := ⟨.hbm, 1109, rfl⟩
abbrev main_call2_call5_c_13 : Ref sig .tc := ⟨.hbm, 1110, rfl⟩
abbrev main_call2_call5_v55 : Ref sig .tc := ⟨.hbm, 1111, rfl⟩
abbrev main_call2_call5_v56 : Ref sig .tc := ⟨.hbm, 1112, rfl⟩
abbrev main_call2_call5_c_14 : Ref sig .tc := ⟨.hbm, 1113, rfl⟩
abbrev main_call2_call5_v57 : Ref sig .tc := ⟨.hbm, 1114, rfl⟩
abbrev main_call2_call5_v58 : Ref sig .tc := ⟨.hbm, 1115, rfl⟩
abbrev main_call2_call5_v59 : Ref sig .tc := ⟨.hbm, 1116, rfl⟩
abbrev main_call2_call5_v60 : Ref sig .tc := ⟨.hbm, 1117, rfl⟩
abbrev main_call2_call5_v61 : Ref sig .tc := ⟨.hbm, 1118, rfl⟩
abbrev main_call2_call5_c_15 : Ref sig .tc := ⟨.hbm, 1119, rfl⟩
abbrev main_call2_call5_v62 : Ref sig .tc := ⟨.hbm, 1120, rfl⟩
abbrev main_call2_call5_v63 : Ref sig .tc := ⟨.hbm, 1121, rfl⟩
abbrev main_call2_call5_c_16 : Ref sig .tc := ⟨.hbm, 1122, rfl⟩
abbrev main_call2_call5_v64 : Ref sig .tc := ⟨.hbm, 1123, rfl⟩
abbrev main_call2_call5_v65 : Ref sig .tc := ⟨.hbm, 1124, rfl⟩
abbrev main_call2_call5_v66 : Ref sig .tc := ⟨.hbm, 1125, rfl⟩
abbrev main_call2_call5_v67 : Ref sig .tc := ⟨.hbm, 1126, rfl⟩
abbrev main_call2_call5_v68 : Ref sig .tc := ⟨.hbm, 1127, rfl⟩
abbrev main_call2_call5_v69 : Ref sig .tc := ⟨.hbm, 1128, rfl⟩
abbrev main_call2_call5_v70 : Ref sig .tc := ⟨.hbm, 1129, rfl⟩
abbrev main_call2_call5_v71 : Ref sig .tc := ⟨.hbm, 1130, rfl⟩
abbrev main_call2_call5_c_17 : Ref sig .tc := ⟨.hbm, 1131, rfl⟩
abbrev main_call2_call5_v72 : Ref sig .tc := ⟨.hbm, 1132, rfl⟩
abbrev main_call2_call5_v73 : Ref sig .tc := ⟨.hbm, 1133, rfl⟩
abbrev main_call2_call5_v74 : Ref sig .tc := ⟨.hbm, 1134, rfl⟩
abbrev main_call2_call5_c_18 : Ref sig .tc := ⟨.hbm, 1135, rfl⟩
abbrev main_call2_call5_v75 : Ref sig .tc := ⟨.hbm, 1136, rfl⟩
abbrev main_call2_call5_v76 : Ref sig .tc := ⟨.hbm, 1137, rfl⟩
abbrev main_call2_call5_c_19 : Ref sig .tc := ⟨.hbm, 1138, rfl⟩
abbrev main_call2_call5_v77 : Ref sig .tc := ⟨.hbm, 1139, rfl⟩
abbrev main_call2_call5_v78 : Ref sig .tc := ⟨.hbm, 1140, rfl⟩
abbrev main_call2_call5_v79 : Ref sig .tc := ⟨.hbm, 1141, rfl⟩
abbrev main_call2_call5_v80 : Ref sig .tc := ⟨.hbm, 1142, rfl⟩
abbrev main_call2_call5_v81 : Ref sig .tc := ⟨.hbm, 1143, rfl⟩
abbrev main_call2_call5_c_20 : Ref sig .tc := ⟨.hbm, 1144, rfl⟩
abbrev main_call2_call5_v82 : Ref sig .tc := ⟨.hbm, 1145, rfl⟩
abbrev main_call2_call5_v83 : Ref sig .tc := ⟨.hbm, 1146, rfl⟩
abbrev main_call2_call5_c_21 : Ref sig .tc := ⟨.hbm, 1147, rfl⟩
abbrev main_call2_call5_v84 : Ref sig .tc := ⟨.hbm, 1148, rfl⟩
abbrev main_call2_call5_v85 : Ref sig .tc := ⟨.hbm, 1149, rfl⟩
abbrev main_call2_call5_v86 : Ref sig .tc := ⟨.hbm, 1150, rfl⟩
abbrev main_call2_call5_v87 : Ref sig .tc := ⟨.hbm, 1151, rfl⟩
abbrev main_call2_call5_v88 : Ref sig .tc := ⟨.hbm, 1152, rfl⟩
abbrev main_call2_call5_c_22 : Ref sig .tc := ⟨.hbm, 1153, rfl⟩
abbrev main_call2_call5_v89 : Ref sig .tc := ⟨.hbm, 1154, rfl⟩
abbrev main_call2_call5_v90 : Ref sig .tc := ⟨.hbm, 1155, rfl⟩
abbrev main_call2_call5_c_23 : Ref sig .tc := ⟨.hbm, 1156, rfl⟩
abbrev main_call2_call5_v91 : Ref sig .tc := ⟨.hbm, 1157, rfl⟩
abbrev main_call2_call5_v92 : Ref sig .tc := ⟨.hbm, 1158, rfl⟩
abbrev main_call2_call5_v93 : Ref sig .tc := ⟨.hbm, 1159, rfl⟩
abbrev main_call2_call5_v94 : Ref sig .tc := ⟨.hbm, 1160, rfl⟩
abbrev main_call2_call5_v95 : Ref sig .tc := ⟨.hbm, 1161, rfl⟩
abbrev main_call2_call5_c_24 : Ref sig .tc := ⟨.hbm, 1162, rfl⟩
abbrev main_call2_call5_v96 : Ref sig .tc := ⟨.hbm, 1163, rfl⟩
abbrev main_call2_call5_v97 : Ref sig .tc := ⟨.hbm, 1164, rfl⟩
abbrev main_call2_call5_c_25 : Ref sig .tc := ⟨.hbm, 1165, rfl⟩
abbrev main_call2_call5_v98 : Ref sig .tc := ⟨.hbm, 1166, rfl⟩
abbrev main_call2_call5_v99 : Ref sig .tc := ⟨.hbm, 1167, rfl⟩
abbrev main_call2_call5_v100 : Ref sig .tc := ⟨.hbm, 1168, rfl⟩
abbrev main_call2_call5_v101 : Ref sig .tc := ⟨.hbm, 1169, rfl⟩
abbrev main_call2_call5_v102 : Ref sig .tc := ⟨.hbm, 1170, rfl⟩
abbrev main_call2_call5_v103 : Ref sig .tc := ⟨.hbm, 1171, rfl⟩
abbrev main_call2_call5_v104 : Ref sig .tc := ⟨.hbm, 1172, rfl⟩
abbrev main_call2_call5_v105 : Ref sig .tc := ⟨.hbm, 1173, rfl⟩
abbrev main_call2_call5_c_26 : Ref sig .tc := ⟨.hbm, 1174, rfl⟩
abbrev main_call2_call5_v106 : Ref sig .tc := ⟨.hbm, 1175, rfl⟩
abbrev main_call2_call5_v107 : Ref sig .tc := ⟨.hbm, 1176, rfl⟩
abbrev main_call2_call5_v108 : Ref sig .tc := ⟨.hbm, 1177, rfl⟩
abbrev main_call2_call5_c_27 : Ref sig .tc := ⟨.hbm, 1178, rfl⟩
abbrev main_call2_call5_v109 : Ref sig .tc := ⟨.hbm, 1179, rfl⟩
abbrev main_call2_call5_v110 : Ref sig .tc := ⟨.hbm, 1180, rfl⟩
abbrev main_call2_call5_c_28 : Ref sig .tc := ⟨.hbm, 1181, rfl⟩
abbrev main_call2_call5_v111 : Ref sig .tc := ⟨.hbm, 1182, rfl⟩
abbrev main_call2_call5_v112 : Ref sig .tc := ⟨.hbm, 1183, rfl⟩
abbrev main_call2_call5_v113 : Ref sig .tc := ⟨.hbm, 1184, rfl⟩
abbrev main_call2_call5_v114 : Ref sig .tc := ⟨.hbm, 1185, rfl⟩
abbrev main_call2_call5_v115 : Ref sig .tc := ⟨.hbm, 1186, rfl⟩
abbrev main_call2_call5_c_29 : Ref sig .tc := ⟨.hbm, 1187, rfl⟩
abbrev main_call2_call5_v116 : Ref sig .tc := ⟨.hbm, 1188, rfl⟩
abbrev main_call2_call5_v117 : Ref sig .tc := ⟨.hbm, 1189, rfl⟩
abbrev main_call2_call5_c_30 : Ref sig .tc := ⟨.hbm, 1190, rfl⟩
abbrev main_call2_call5_v118 : Ref sig .tc := ⟨.hbm, 1191, rfl⟩
abbrev main_call2_call5_v119 : Ref sig .tc := ⟨.hbm, 1192, rfl⟩
abbrev main_call2_call5_v120 : Ref sig .tc := ⟨.hbm, 1193, rfl⟩
abbrev main_call2_call5_v121 : Ref sig .tc := ⟨.hbm, 1194, rfl⟩
abbrev main_call2_call5_v122 : Ref sig .tc := ⟨.hbm, 1195, rfl⟩
abbrev main_call2_call5_c_31 : Ref sig .tc := ⟨.hbm, 1196, rfl⟩
abbrev main_call2_call5_v123 : Ref sig .tc := ⟨.hbm, 1197, rfl⟩
abbrev main_call2_call5_v124 : Ref sig .tc := ⟨.hbm, 1198, rfl⟩
abbrev main_call2_call5_c_32 : Ref sig .tc := ⟨.hbm, 1199, rfl⟩
abbrev main_call2_call5_v125 : Ref sig .tc := ⟨.hbm, 1200, rfl⟩
abbrev main_call2_call5_v126 : Ref sig .tc := ⟨.hbm, 1201, rfl⟩
abbrev main_call2_call5_v127 : Ref sig .tc := ⟨.hbm, 1202, rfl⟩
abbrev main_call2_call5_v128 : Ref sig .tc := ⟨.hbm, 1203, rfl⟩
abbrev main_call2_call5_v129 : Ref sig .tc := ⟨.hbm, 1204, rfl⟩
abbrev main_call2_call5_c_33 : Ref sig .tc := ⟨.hbm, 1205, rfl⟩
abbrev main_call2_call5_v130 : Ref sig .tc := ⟨.hbm, 1206, rfl⟩
abbrev main_call2_call5_v131 : Ref sig .tc := ⟨.hbm, 1207, rfl⟩
abbrev main_call2_call5_c_34 : Ref sig .tc := ⟨.hbm, 1208, rfl⟩
abbrev main_call2_call5_v132 : Ref sig .tc := ⟨.hbm, 1209, rfl⟩
abbrev main_call2_call5_v133 : Ref sig .tc := ⟨.hbm, 1210, rfl⟩
abbrev main_call2_call5_v134 : Ref sig .tc := ⟨.hbm, 1211, rfl⟩
abbrev main_call2_call5_v135 : Ref sig .tc := ⟨.hbm, 1212, rfl⟩
abbrev main_call2_call5_v136 : Ref sig .tc := ⟨.hbm, 1213, rfl⟩
abbrev main_call2_call5_v137 : Ref sig .tc := ⟨.hbm, 1214, rfl⟩
abbrev main_call2_call5_v138 : Ref sig .tc := ⟨.hbm, 1215, rfl⟩
abbrev main_call2_call5_v139 : Ref sig .tc := ⟨.hbm, 1216, rfl⟩
abbrev main_call2_call5_c_35 : Ref sig .tc := ⟨.hbm, 1217, rfl⟩
abbrev main_call2_call5_v140 : Ref sig .tc := ⟨.hbm, 1218, rfl⟩
abbrev main_call2_call5_v141 : Ref sig .tc := ⟨.hbm, 1219, rfl⟩
abbrev main_call2_call5_v142 : Ref sig .tc := ⟨.hbm, 1220, rfl⟩
abbrev main_call2_call5_c_36 : Ref sig .tc := ⟨.hbm, 1221, rfl⟩
abbrev main_call2_call5_v143 : Ref sig .tc := ⟨.hbm, 1222, rfl⟩
abbrev main_call2_call5_v144 : Ref sig .tc := ⟨.hbm, 1223, rfl⟩
abbrev main_call2_call5_c_37 : Ref sig .tc := ⟨.hbm, 1224, rfl⟩
abbrev main_call2_call5_v145 : Ref sig .tc := ⟨.hbm, 1225, rfl⟩
abbrev main_call2_call5_v146 : Ref sig .tc := ⟨.hbm, 1226, rfl⟩
abbrev main_call2_call5_v147 : Ref sig .tc := ⟨.hbm, 1227, rfl⟩
abbrev main_call2_call5_v148 : Ref sig .tc := ⟨.hbm, 1228, rfl⟩
abbrev main_call2_call5_v149 : Ref sig .tc := ⟨.hbm, 1229, rfl⟩
abbrev main_call2_call5_c_38 : Ref sig .tc := ⟨.hbm, 1230, rfl⟩
abbrev main_call2_call5_v150 : Ref sig .tc := ⟨.hbm, 1231, rfl⟩
abbrev main_call2_call5_v151 : Ref sig .tc := ⟨.hbm, 1232, rfl⟩
abbrev main_call2_call5_c_39 : Ref sig .tc := ⟨.hbm, 1233, rfl⟩
abbrev main_call2_call5_v152 : Ref sig .tc := ⟨.hbm, 1234, rfl⟩
abbrev main_call2_call5_v153 : Ref sig .tc := ⟨.hbm, 1235, rfl⟩
abbrev main_call2_call5_v154 : Ref sig .tc := ⟨.hbm, 1236, rfl⟩
abbrev main_call2_call5_v155 : Ref sig .tc := ⟨.hbm, 1237, rfl⟩
abbrev main_call2_call5_v156 : Ref sig .tc := ⟨.hbm, 1238, rfl⟩
abbrev main_call2_call5_c_40 : Ref sig .tc := ⟨.hbm, 1239, rfl⟩
abbrev main_call2_call5_v157 : Ref sig .tc := ⟨.hbm, 1240, rfl⟩
abbrev main_call2_call5_v158 : Ref sig .tc := ⟨.hbm, 1241, rfl⟩
abbrev main_call2_call5_c_41 : Ref sig .tc := ⟨.hbm, 1242, rfl⟩
abbrev main_call2_call5_v159 : Ref sig .tc := ⟨.hbm, 1243, rfl⟩
abbrev main_call2_call5_v160 : Ref sig .tc := ⟨.hbm, 1244, rfl⟩
abbrev main_call2_call5_v161 : Ref sig .tc := ⟨.hbm, 1245, rfl⟩
abbrev main_call2_call5_v162 : Ref sig .tc := ⟨.hbm, 1246, rfl⟩
abbrev main_call2_call5_v163 : Ref sig .tc := ⟨.hbm, 1247, rfl⟩
abbrev main_call2_call5_c_42 : Ref sig .tc := ⟨.hbm, 1248, rfl⟩
abbrev main_call2_call5_v164 : Ref sig .tc := ⟨.hbm, 1249, rfl⟩
abbrev main_call2_call5_v165 : Ref sig .tc := ⟨.hbm, 1250, rfl⟩
abbrev main_call2_call5_c_43 : Ref sig .tc := ⟨.hbm, 1251, rfl⟩
abbrev main_call2_call5_v166 : Ref sig .tc := ⟨.hbm, 1252, rfl⟩
abbrev main_call2_call5_v167 : Ref sig .tc := ⟨.hbm, 1253, rfl⟩
abbrev main_call2_call5_v168 : Ref sig .tc := ⟨.hbm, 1254, rfl⟩
abbrev main_call2_call5_v169 : Ref sig .tc := ⟨.hbm, 1255, rfl⟩
abbrev main_call2_call5_v170 : Ref sig .tc := ⟨.hbm, 1256, rfl⟩
abbrev main_call2_v45_0 : Ref sig .tc := ⟨.hbm, 1257, rfl⟩
abbrev main_call2_call5_v172 : Ref sig .tc := ⟨.hbm, 1258, rfl⟩
abbrev main_call2_call5_v173 : Ref sig .tc := ⟨.hbm, 1259, rfl⟩
abbrev main_call2_call5_c_44 : Ref sig .tc := ⟨.hbm, 1260, rfl⟩
abbrev main_call2_call5_v174 : Ref sig .tc := ⟨.hbm, 1261, rfl⟩
abbrev main_call2_v45_1 : Ref sig .tc := ⟨.hbm, 1262, rfl⟩
abbrev main_call2_v46 : Ref sig .tc := ⟨.hbm, 1263, rfl⟩
abbrev main_call2_v47 : Ref sig .tc := ⟨.hbm, 1264, rfl⟩
abbrev main_call2_v48 : Ref sig .tc := ⟨.hbm, 1265, rfl⟩
abbrev main_call2_v49 : Ref sig .tc := ⟨.hbm, 1266, rfl⟩
abbrev main_call2_c_12 : Ref sig .tc := ⟨.hbm, 1267, rfl⟩
abbrev main_call2_v50 : Ref sig .tc := ⟨.hbm, 1268, rfl⟩
abbrev main_call2_v51 : Ref sig .tc := ⟨.hbm, 1269, rfl⟩
abbrev main_call2_v52 : Ref sig .tc := ⟨.hbm, 1270, rfl⟩
abbrev main_call2_v53 : Ref sig .tc := ⟨.hbm, 1271, rfl⟩
abbrev main_call2_v54 : Ref sig .tc := ⟨.hbm, 1272, rfl⟩
abbrev main_call2_c_13 : Ref sig .tc := ⟨.hbm, 1273, rfl⟩
abbrev main_call2_v55 : Ref sig .tc := ⟨.hbm, 1274, rfl⟩
abbrev main_call2_v56 : Ref sig .tc := ⟨.hbm, 1275, rfl⟩
abbrev main_call2_v57 : Ref sig .tc := ⟨.hbm, 1276, rfl⟩
abbrev main_call2_c_14 : Ref sig .tc := ⟨.hbm, 1277, rfl⟩
abbrev main_call2_v58 : Ref sig .tc := ⟨.hbm, 1278, rfl⟩
abbrev main_call2_v59 : Ref sig .tc := ⟨.hbm, 1279, rfl⟩
abbrev main_call2_v60 : Ref sig .tc := ⟨.hbm, 1280, rfl⟩
abbrev main_call2_v61 : Ref sig .tc := ⟨.hbm, 1281, rfl⟩
abbrev main_call2_v62 : Ref sig .tc := ⟨.hbm, 1282, rfl⟩
abbrev main_call2_v63 : Ref sig .tc := ⟨.hbm, 1283, rfl⟩
abbrev main_call2_v64 : Ref sig .tc := ⟨.hbm, 1284, rfl⟩
abbrev main_call2_v65 : Ref sig .tc := ⟨.hbm, 1285, rfl⟩
abbrev main_call2_v66 : Ref sig .tc := ⟨.hbm, 1286, rfl⟩
abbrev main_call2_v67 : Ref sig .tc := ⟨.hbm, 1287, rfl⟩
abbrev main_call2_v68 : Ref sig .tc := ⟨.hbm, 1288, rfl⟩
abbrev main_call2_v69 : Ref sig .tc := ⟨.hbm, 1289, rfl⟩
abbrev main_call2_v70 : Ref sig .tc := ⟨.hbm, 1290, rfl⟩
abbrev main_call2_v71 : Ref sig .tc := ⟨.hbm, 1291, rfl⟩
abbrev main_call2_v72 : Ref sig .tc := ⟨.hbm, 1292, rfl⟩
abbrev main_v13 : Ref sig .tc := ⟨.hbm, 1293, rfl⟩
abbrev main_call3_v0 : Ref sig .tc := ⟨.hbm, 1294, rfl⟩
abbrev main_call3_v1 : Ref sig .tc := ⟨.hbm, 1295, rfl⟩
abbrev main_call3_v2 : Ref sig .tc := ⟨.hbm, 1296, rfl⟩
abbrev main_call3_v3 : Ref sig .tc := ⟨.hbm, 1297, rfl⟩
abbrev main_call3_v4 : Ref sig .tc := ⟨.hbm, 1298, rfl⟩
abbrev main_v14 : Ref sig .tc := ⟨.hbm, 1299, rfl⟩
abbrev main_v15 : Ref sig .tc := ⟨.hbm, 1300, rfl⟩
abbrev main_v16 : Ref sig .tc := ⟨.hbm, 1301, rfl⟩
abbrev main_call4_v0 : Ref sig .tc := ⟨.hbm, 1302, rfl⟩
abbrev main_v17 : Ref sig .tc := ⟨.hbm, 1303, rfl⟩
abbrev main_v18 : Ref sig .tc := ⟨.hbm, 1304, rfl⟩

abbrev nD : Nat := 1
abbrev τ : Topo := Topo.v7x

variable {F : FTy → Type} [FloatOps F]
-- ==== Proof.Cipher.lean ====
/- The threefry cipher on a pair of 32-bit words, in the operations of one lane. -/
module

public import Idealize.ShloMosaic.PureOps
public import Idealize.ShloMosaic.Lib.ValueIdxCore

@[expose] public section

namespace Cert.Cipher

open Idealize.ShloMosaic

/-- A 32-bit word. -/
abbrev W := BitVec 32

/-- The word rotated left by `r`, given `s = 32 - r`. -/
def rot (r s x : W) : W := IntOp.ori (IntOp.shli .vector x r) (IntOp.shrui .vector x s)

/-- One round: add, rotate, exclusive or. -/
def rnd (r s : W) (p : W × W) : W × W :=
  (IntOp.addi p.1 p.2, IntOp.xori (rot r s p.2) (IntOp.addi p.1 p.2))

/-- Adding a pair of key words. -/
def inj (a b : W) (p : W × W) : W × W := (IntOp.addi p.1 a, IntOp.addi p.2 b)

/-- The four rounds of the even groups. -/
def grpA (p : W × W) : W × W := rnd 6#32 26#32 (rnd 26#32 6#32 (rnd 15#32 17#32 (rnd 13#32 19#32 p)))

/-- The four rounds of the odd groups. -/
def grpB (p : W × W) : W × W := rnd 24#32 8#32 (rnd 16#32 16#32 (rnd 29#32 3#32 (rnd 17#32 15#32 p)))

/-- The cipher after the first key addition, its five later key additions given as words. -/
def tail (a1 b1 a2 b2 a3 b3 a4 b4 a5 b5 : W) (p : W × W) : W × W :=
  inj a5 b5 (grpA (inj a4 b4 (grpB (inj a3 b3 (grpA (inj a2 b2 (grpB (inj a1 b1 (grpA p)))))))))

/-- The third key word. -/
def k2 (a b : W) : W := (a ^^^ b) ^^^ 466688986#32

/-- The cipher with key words `a`, `b`. -/
def cipher (a b : W) (p : W × W) : W × W :=
  tail b (k2 a b + 1#32) (k2 a b) (a + 2#32) a (b + 3#32) b (k2 a b + 4#32) (k2 a b) (a + 5#32) (inj a b p)

end Cert.Cipher
-- ==== Proof.Words.lean ====
/- The three streams of random words of the kernel: every lane of a block is the cipher at that
lane's counter. The kernel's text is cut in pieces that do not end where the groups of rounds do;
each piece is one lemma. -/
module

public import proofs.«01_k».proof.Proof.Cipher
public import proofs.«01_k».proof.Proof.Gen.KernelIdeal.Value
public import Idealize.ShloMosaic.PureOps.Ideal

@[expose] public section

set_option maxRecDepth 16384
set_option maxHeartbeats 4000000

noncomputable section

namespace Cert.KernelIdeal.Words

open Idealize.ShloMosaic Cert.Cipher Cert.KernelIdeal Cert.KernelIdeal.Gen

/-- A block of words. -/
abbrev Words := IVec S2x2048 32

/-- At the lane `j` the second words `x` hold the second word of `p`, and `y` the sum of both. -/
def Sum (j : S2x2048.Idx) (p : W × W) (x y : Words) : Prop :=
  x j = p.2 ∧ y j = IntOp.addi p.1 p.2

/-- At the lane `j` the blocks `y`, `x` hold the two words of `p`. -/
def Out (j : S2x2048.Idx) (p : W × W) (y x : Words) : Prop := y j = p.1 ∧ x j = p.2

/-- The exclusive or of both words. -/
def both (p : W × W) : W := IntOp.xori p.1 p.2

/-- The cut of the mask: a word as a float between 1 and 2, less 1, against the rate. -/
def less (F : FTy → Type) [FloatOps F] (w : W) : BitVec 1 :=
  FloatOps.cmpf (F := F) .olt
    (FloatOps.subf (FloatOps.ofBits .f32 (IntOp.ori (IntOp.shrui .vector w 9#32) 1065353216#32))
      (Scalar.ofBits .f32 0x3F800000#32))
    (Scalar.ofBits .f32 0x3E4CCCCD#32)

/-- The mask stream, its first group. -/
theorem mask1 (i : grid0.Coords) (j : S2x2048.Idx) :
    Sum j (inj 270669613#32 1724713081#32 (grpA (1832780943#32, IntOp.addi (k0_pay2 i j) 270669613#32)))
      (k0_pay11 i) (k0_pay12 i) := by
  constructor <;>
    simp only [k0_pay3, k0_pay4, k0_pay5, k0_pay6, k0_pay7, k0_pay8, k0_pay9, k0_pay10, k0_pay11, k0_pay12,
      addi, xori, ori, shli, shrui, broadcast, inj, grpA, grpB, rnd, rot]

/-- The mask stream, the second group and two rounds. -/
theorem mask2 {j p x y} (h : Sum j p x y) :
    Sum j (rnd 15#32 17#32 (rnd 13#32 19#32 (inj 1724713080#32 1832780945#32 (grpB p))))
      (k0_pay23 x y 17#32) (k0_pay24 x y 17#32) := by
  constructor <;>
    simp only [k0_pay13, k0_pay14, k0_pay15, k0_pay16, k0_pay17, k0_pay18, k0_pay19, k0_pay20, k0_pay21,
      k0_pay22, k0_pay23, k0_pay24, addi, xori, ori, shli, shrui, broadcast, inj, grpA, grpB, rnd, rot, h.1,
      h.2]

/-- The mask stream, to the end of the fourth group. -/
theorem mask3 {j p x y} (h : Sum j p x y) :
    Out j (grpB (inj 1832780943#32 270669616#32 (rnd 6#32 26#32 (rnd 26#32 6#32 p))))
      (k0_pay34 x y 26#32) (k0_pay35 x y 26#32) := by
  constructor <;>
    simp only [k0_pay25, k0_pay26, k0_pay27, k0_pay28, k0_pay29, k0_pay30, k0_pay31, k0_pay32, k0_pay33,
      k0_pay34, k0_pay35, addi, xori, ori, shli, shrui, broadcast, inj, grpA, grpB, rnd, rot, h.1, h.2]

/-- The high stream, its first group and one round. -/
theorem high1 (c : Words) (j : S2x2048.Idx) :
    Sum j (rnd 17#32 15#32 (inj 129218101#32 2711170847#32 (grpA ((3187376881#32, IntOp.addi (c j) 129218101#32)))))
      (k0_pay49 c) (k0_pay50 c) := by
  constructor <;>
    simp only [k0_pay39, k0_pay40, k0_pay41, k0_pay42, k0_pay43, k0_pay44, k0_pay45, k0_pay46, k0_pay47,
      k0_pay48, k0_pay49, k0_pay50, addi, xori, ori, shli, shrui, broadcast, inj, grpA, grpB, rnd, rot]

/-- The high stream, six more rounds. -/
theorem high2 {j p x y} (h : Sum j p x y) :
    Sum j (rnd 26#32 6#32 (rnd 15#32 17#32 (rnd 13#32 19#32 (inj 2711170846#32 3187376883#32 (rnd 24#32 8#32 (rnd 16#32 16#32 (rnd 29#32 3#32 p)))))))
      (k0_pay62 x y k0_pay51) (k0_pay63 x y k0_pay51) := by
  constructor <;>
    simp only [k0_pay51, k0_pay52, k0_pay53, k0_pay54, k0_pay55, k0_pay56, k0_pay57, k0_pay58, k0_pay59,
      k0_pay60, k0_pay61, k0_pay62, k0_pay63, addi, xori, ori, shli, shrui, broadcast, inj, grpA, grpB, rnd,
      rot, h.1, h.2]

/-- The high stream, to the end of the fourth group. -/
theorem high3 {j p x y} (h : Sum j p x y) :
    Sum j (inj 129218101#32 2711170850#32 (grpB (inj 3187376881#32 129218104#32 (rnd 6#32 26#32 p))))
      (k0_pay73 x y k0_pay64) (k0_pay74 x y k0_pay64) := by
  constructor <;>
    simp only [k0_pay64, k0_pay65, k0_pay66, k0_pay67, k0_pay68, k0_pay69, k0_pay70, k0_pay71, k0_pay72,
      k0_pay73, k0_pay74, addi, xori, ori, shli, shrui, broadcast, inj, grpA, grpB, rnd, rot, h.1, h.2]

/-- The low stream, its first group and two rounds. -/
theorem low1 (c : Words) (j : S2x2048.Idx) :
    Out j (rnd 29#32 3#32 (rnd 17#32 15#32 (inj 1168365246#32 3529550793#32 (grpA ((2350016172#32, IntOp.addi (c j) 1168365246#32))))))
      (k0_pay93 k0_pay81 (k0_pay82 c)) (k0_pay94 k0_pay81 (k0_pay82 c)) := by
  constructor <;>
    simp only [k0_pay81, k0_pay82, k0_pay83, k0_pay84, k0_pay85, k0_pay86, k0_pay87, k0_pay88, k0_pay89,
      k0_pay90, k0_pay91, k0_pay92, k0_pay93, k0_pay94, addi, xori, ori, shli, shrui, broadcast, inj, grpA,
      grpB, rnd, rot]

/-- The low stream, six more rounds. -/
theorem low2 {j p x y} (h : Out j p y x) :
    Out j (grpA (inj 3529550792#32 2350016174#32 (rnd 24#32 8#32 (rnd 16#32 16#32 p))))
      (k0_pay105 y x) (k0_pay106 y x) := by
  constructor <;>
    simp only [k0_pay95, k0_pay96, k0_pay97, k0_pay98, k0_pay99, k0_pay100, k0_pay101, k0_pay102, k0_pay103,
      k0_pay104, k0_pay105, k0_pay106, addi, xori, ori, shli, shrui, broadcast, inj, grpA, grpB, rnd, rot, h.1,
      h.2]

/-- The low stream, to the first round of the last group. -/
theorem low3 {j p x y} (h : Out j p y x) :
    Sum j (rnd 13#32 19#32 (inj 1168365246#32 3529550796#32 (grpB (inj 2350016172#32 1168365249#32 p))))
      (k0_pay117 y x) (k0_pay118 y x) := by
  constructor <;>
    simp only [k0_pay107, k0_pay108, k0_pay109, k0_pay110, k0_pay111, k0_pay112, k0_pay113, k0_pay114,
      k0_pay115, k0_pay116, k0_pay117, k0_pay118, addi, xori, ori, shli, shrui, broadcast, inj, grpA, grpB, rnd,
      rot, h.1, h.2]

/-- The high word. -/
theorem high4 {j p x y} (h : Sum j p x y)
    {z : Words} (hz : z j = IntOp.shli .vector (x j) 13#32) :
    k0_pay77 x y z k0_pay76 j = both (inj 2711170846#32 3187376886#32 (grpA p)) := by
  simp only [k0_pay76, k0_pay77, addi, xori, ori, shli, shrui, broadcast, inj, grpA, grpB, rnd, rot, both, hz,
    h.1, h.2]

/-- The low word. -/
theorem low4 {j p x y} (h : Sum j p x y) :
    k0_pay120 x y k0_pay119 j = both (inj 3529550792#32 2350016177#32 (rnd 6#32 26#32 (rnd 26#32 6#32 (rnd 15#32 17#32 p)))) := by
  simp only [k0_pay119, k0_pay120, addi, xori, ori, shli, shrui, broadcast, inj, grpA, grpB, rnd, rot, both,
    h.1, h.2]

/-- The cut of the mask word. -/
theorem mask4 (F : FTy → Type) [FloatOps F] {j p x y} (h : Out j p y x) :
    k0_pay37 (F := F) y x k0_pay36 j = less F (both (inj 1724713080#32 1832780948#32 (grpA (inj 270669613#32 1724713084#32 p)))) := by
  simp only [k0_pay36, k0_pay37, cmpf, subf, bitcastToFloat, less, addi, xori, ori, shli, shrui, broadcast, inj,
    grpA, grpB, rnd, rot, both, h.1, h.2]

/-- The key words of the mask stream are those the cipher derives. -/
theorem mask_cipher (c : W) : tail 270669613#32 1724713081#32 1724713080#32 1832780945#32 1832780943#32 270669616#32 270669613#32 1724713084#32 1724713080#32 1832780948#32
      (1832780943#32, IntOp.addi c 270669613#32) = cipher 1832780943#32 270669613#32 (0#32, c) := by
  simp only [cipher, inj, k2, IntOp.addi, BitVec.zero_add, BitVec.reduceXOr, BitVec.reduceAdd]

/-- The key words of the high stream are those the cipher derives. -/
theorem high_cipher (c : W) : tail 129218101#32 2711170847#32 2711170846#32 3187376883#32 3187376881#32 129218104#32 129218101#32 2711170850#32 2711170846#32 3187376886#32
      (3187376881#32, IntOp.addi c 129218101#32) = cipher 3187376881#32 129218101#32 (0#32, c) := by
  simp only [cipher, inj, k2, IntOp.addi, BitVec.zero_add, BitVec.reduceXOr, BitVec.reduceAdd]

/-- The key words of the low stream are those the cipher derives. -/
theorem low_cipher (c : W) : tail 1168365246#32 3529550793#32 3529550792#32 2350016174#32 2350016172#32 1168365249#32 1168365246#32 3529550796#32 3529550792#32 2350016177#32
      (2350016172#32, IntOp.addi c 1168365246#32) = cipher 2350016172#32 1168365246#32 (0#32, c) := by
  simp only [cipher, inj, k2, IntOp.addi, BitVec.zero_add, BitVec.reduceXOr, BitVec.reduceAdd]

/-- The mask at a lane: the cut of the cipher's word at the lane's counter. -/
theorem mask_apply (i : grid0.Coords) (x0 : Vec Ideal S2x1000x2048 .f32) (j : S2x2048.Idx) :
    k0_pay37 (F := Ideal) (k0_pay34 (k0_pay130 i x0) (k0_pay131 i x0) 26#32)
        (k0_pay35 (k0_pay130 i x0) (k0_pay131 i x0) 26#32) k0_pay36 j
      = less Ideal (both (cipher 1832780943#32 270669613#32 (0#32, k0_pay2 i j))) := by
  rw [← mask_cipher]
  exact mask4 Ideal (mask3 (mask2 (mask1 i j)))

/-- The high word at a lane. -/
theorem high_apply (i : grid0.Coords) (x0 : Vec Ideal S2x1000x2048 .f32) (j : S2x2048.Idx) :
    k0_pay77 (k0_pay138 i x0) (k0_pay139 i x0) (k0_pay140 i x0) (k0_pay141 i x0) j
      = both (cipher 3187376881#32 129218101#32 (0#32, k0_pay2 i j)) := by
  rw [← high_cipher]
  exact high4 (high3 (high2 (high1 (k0_pay2 i) j))) rfl

/-- The low word at a lane. -/
theorem low_apply (i : grid0.Coords) (x0 : Vec Ideal S2x1000x2048 .f32) (j : S2x2048.Idx) :
    k0_pay120 (k0_pay149 i x0) (k0_pay150 i x0) (k0_pay151 i x0) j
      = both (cipher 2350016172#32 1168365246#32 (0#32, k0_pay2 i j)) := by
  rw [← low_cipher]
  exact low4 (low3 (low2 (low1 (k0_pay2 i) j)))

end Cert.KernelIdeal.Words
-- ==== Proof.Lane.lean ====
/- What the kernel makes of the two words of a lane: the token, in floats, and the one store of a
block read at an index. -/
module

public import proofs.«01_k».proof.Proof.Words
public import Idealize.ShloMosaic.Lib.Pointwise

@[expose] public section

set_option maxRecDepth 16384
set_option maxHeartbeats 4000000

noncomputable section

namespace Cert.KernelIdeal.Words

open Idealize.ShloMosaic Cert.Cipher Cert.KernelIdeal Cert.KernelIdeal.Gen

variable (F : FTy → Type) [FloatOps F]

/-- `x` less a thousand times the whole part of `x` scaled by about a thousandth. -/
def red (x : F .f32) : F .f32 :=
  FloatOps.subf x (FloatOps.mulf (FloatOps.floor (FloatOps.mulf x (Scalar.ofBits .f32 0x3A83126F#32)))
    (Scalar.ofBits .f32 0x447A0000#32))

/-- A negative rest raised by a thousand. -/
def up (r : F .f32) : F .f32 :=
  Scalar.select (FloatOps.cmpf .olt r (Scalar.ofBits .f32 0x00000000#32))
    (FloatOps.addf r (Scalar.ofBits .f32 0x447A0000#32)) r

/-- A rest of a thousand or more lowered by a thousand. -/
def down (r : F .f32) : F .f32 :=
  Scalar.select (FloatOps.cmpf .oge r (Scalar.ofBits .f32 0x447A0000#32))
    (FloatOps.subf r (Scalar.ofBits .f32 0x447A0000#32)) r

/-- The kernel's remainder by a thousand. -/
def rem (x : F .f32) : F .f32 := down F (up F (red F x))

/-- The kernel's remainder by a thousand of a word, by its two halves. -/
def wordRem (w : W) : F .f32 :=
  rem F (FloatOps.addf
    (FloatOps.mulf (rem F (FloatOps.sitofp .f32 (IntOp.shrui .vector w 16#32))) (Scalar.ofBits .f32 0x44060000#32))
    (rem F (FloatOps.sitofp .f32 (IntOp.andi w 65535#32))))

/-- The sum whose remainder is the token. -/
def mix (a b : F .f32) : F .f32 :=
  FloatOps.addf (FloatOps.mulf a (Scalar.ofBits .f32 0x43940000#32)) b

/-- The kernel's token, from a high and a low word. -/
def token (hi lo : W) : W := FloatOps.fptosi 32 (rem F (mix F (wordRem F hi) (wordRem F lo)))

variable {F}

theorem wordRem_high (a b c d : Words) (j : S2x2048.Idx) :
    k0_pay80 (F := F) (k0_pay78 a b c d) (k0_pay79 a b c d) j = wordRem F (k0_pay77 a b c d j) := by
  simp only [k0_pay78, k0_pay79, k0_pay80, andi, shrui, broadcast, subf, addf, mulf, floor, select, cmpf, sitofp,
    wordRem, rem, red, up, down]

theorem wordRem_low (h : FVec F S2x2048 .f32) (a b c : Words) (j : S2x2048.Idx) :
    k0_pay125 h (k0_pay121 a b c) (k0_pay122 a b c) (k0_pay123 (F := F) a b c) (k0_pay124 a b c) j
      = mix F (h j) (wordRem F (k0_pay120 a b c j)) := by
  simp only [k0_pay121, k0_pay122, k0_pay123, k0_pay124, k0_pay125, andi, shrui, broadcast, subf, addf, mulf, floor,
    select, cmpf, sitofp, wordRem, rem, red, up, down, mix]

/-- The last remainder, whose scaled whole part comes in its own piece. -/
theorem scaled (h a b d : FVec F S2x2048 .f32) (c : IVec S2x2048 1) (j : S2x2048.Idx) :
    k0_pay126 h a b c d j = FloatOps.mulf (FloatOps.floor (FloatOps.mulf (k0_pay125 h a b c d j)
      (Scalar.ofBits .f32 0x3A83126F#32))) (Scalar.ofBits .f32 0x447A0000#32) := by
  simp only [k0_pay126, broadcast, mulf, floor]

/-- A kernel lane, whole: `p` the mask's word, `hi` and `lo` the token's words, `c` the class, `x` the old entry. -/
def lane (p hi lo : W) (c : Nat) (x : F .f32) : F .f32 :=
  Scalar.select (less F p) (FloatOps.sitofp .f32 (BitVec.setWidth 32 (IntOp.cmpi .eq (BitVec.ofNat 32 c) (token F hi lo)))) x

/-- The stored block at batch row `b`, class `c`, position `l`. -/
theorem store_apply (mk : IVec S2x2048 1) (u v : FVec F S2x2048 .f32) (x : Vec F S2x1000x2048 .f32)
    (b : Fin 2) (c : Fin 1000) (l : Fin 2048)
    (hv : v (ix2 b l) = FloatOps.mulf (FloatOps.floor (FloatOps.mulf (u (ix2 b l))
      (Scalar.ofBits .f32 0x3A83126F#32))) (Scalar.ofBits .f32 0x447A0000#32)) :
    k0_pay1 (k0_pay38 mk) u v x (ix3 b c l)
      = Scalar.select (mk (ix2 b l))
          (FloatOps.sitofp .f32 (BitVec.setWidth 32 (IntOp.cmpi .eq (BitVec.ofNat 32 c.val)
            (FloatOps.fptosi 32 (rem F (u (ix2 b l)))))))
          (x (ix3 b c l)) := by
  unfold k0_pay1 k0_pay38
  pointwise
  rw [hv]
  rfl

/-- The block that a grid point writes, at an index, from the lane's counter. -/
theorem out_apply (i : grid0.Coords) (x0 : Vec Ideal S2x1000x2048 .f32) (b : Fin 2) (c : Fin 1000) (l : Fin 2048) :
    out0_1 i x0 (ix3 b c l)
      = lane (F := Ideal) (both (cipher 1832780943#32 270669613#32 (0#32, k0_pay2 i (ix2 b l))))
          (both (cipher 3187376881#32 129218101#32 (0#32, k0_pay2 i (ix2 b l))))
          (both (cipher 2350016172#32 1168365246#32 (0#32, k0_pay2 i (ix2 b l)))) c.val (x0 (ix3 b c l)) := by
  have hz : (![0, 0, 0] : Fin 3 → Nat) = fun _ => 0 := funext fun a => by fin_cases a <;> rfl
  unfold out0_1
  rw [View.canon_unit_zero hz, View.ld_unit_zero hz]
  rw [store_apply _ _ _ _ b c l (scaled _ _ _ _ _ _)]
  unfold k0_pay152 k0_pay153 k0_pay154 k0_pay155 k0_pay142
  rw [wordRem_low, wordRem_high, mask_apply, high_apply, low_apply]
  rfl

end Cert.KernelIdeal.Words
-- ==== Proof.Array.lean ====
/- The array that the kernel leaves: every entry is the lane of its batch row and position. -/
module

public import proofs.«01_k».proof.Proof.Lane
public import Idealize.ShloMosaic.Lib.Claim
public import Idealize.ShloMosaic.Lib.Pipeline.ValueKit

@[expose] public section

set_option maxRecDepth 16384
set_option maxHeartbeats 4000000

noncomputable section

namespace Cert.KernelIdeal.Words

open Idealize.ShloMosaic Idealize.ShloMosaic.TcCoe Idealize.SL.Sem Cert.Cipher Cert.KernelIdeal Cert.KernelIdeal.Gen
open Idealize.ShloMosaic.Pipeline (Dat)

/-- The counter of position `l` of batch row `a`. -/
def counter (a l : Nat) : W := BitVec.ofNat 32 (2048 * a + l)

/-- The array that the kernel computes from `x`, the three words of each lane the cipher at its counter. -/
def result (x : Vec Ideal S32x1000x2048 .f32) : Vec Ideal S32x1000x2048 .f32 := fun i =>
  lane (F := Ideal) (both (cipher 1832780943#32 270669613#32 (0#32, counter (i 0).val (i 2).val)))
    (both (cipher 3187376881#32 129218101#32 (0#32, counter (i 0).val (i 2).val)))
    (both (cipher 2350016172#32 1168365246#32 (0#32, counter (i 0).val (i 2).val))) (i 1).val (x i)

/-- The blocks of both windows: two batch rows each, whole in the other axes; and the grid's coordinate. -/
theorem idx : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) ∧ (grid0.coords t 0).val = t.val :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0) ∧ (grid0.coords t 0).val = t.val)

/-- The counter that a block computes for a lane. -/
theorem counter_apply (i : grid0.Coords) (b : Fin 2) (l : Fin 2048) :
    k0_pay2 i (ix2 b l) = counter (2 * (i 0).val + b.val) l.val := by
  unfold k0_pay2
  pointwise
  have hi : (i 0).val < 16 := (i 0).isLt
  apply BitVec.eq_of_toNat_eq
  simp only [counter, IntOp.addi, IntOp.muli, Scalar.muli, BitVec.toNat_add, BitVec.toNat_mul, BitVec.toNat_ofNat]
  omega

variable (m : (ℓ : Loc nD τ sig) → Buf (Elt Ideal) ℓ) (ρ : Dev nD → PrngReg)

/-- What a grid point stores at `y` is the result at the array's index `k` that `y` sits at. -/
theorem point (i : grid0.Coords) (x0 : Vec Ideal S2x1000x2048 .f32) (x : Vec Ideal S32x1000x2048 .f32)
    (y : S2x1000x2048.Idx) (k : S32x1000x2048.Idx) (h0 : (k 0).val = 2 * (i 0).val + (y 0).val)
    (h1 : (k 1).val = (y 1).val) (h2 : (k 2).val = (y 2).val) (hx : x0 y = x k) : out0_1 i x0 y = result x k := by
  idx_vars y
  rw [out_apply, counter_apply, hx]
  unfold result
  rw [h0, h1, h2]

/-- The blocks tile the array, so it ends as the result. -/
theorem final (c : Dev nD) : (dats m 0 c).arrAt 1 (cfgs 0).N = result (m ((c : Thread nD τ).loc main_arg0)) := by
  refine (dats m 0 c).arrAt_eq_of_covers 1 _ (by decide +kernel) fun t _ y => ?_
  blk_simp
  rw [after0_1]
  have e := idx t
  refine point _ _ _ y _ ?_ ?_ ?_ ?_
  · blk_simp [e.2.1.1, e.2.2]
    omega
  · blk_simp [e.2.1.2.1]
  · blk_simp [e.2.1.2.2]
  · blk_ext [iblk, V, e.1.1, e.1.2.1, e.1.2.2, e.2.1.1, e.2.1.2.1, e.2.1.2.2]

/-- The run of the kernel: its result array, and its argument as it was. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Words
-- ==== Proof.Arith.lean ====
/- The kernel's arithmetic over the reals: the remainder in floats is the remainder of naturals. -/
module

public import proofs.«01_k».proof.Proof.Lane

@[expose] public section

set_option maxRecDepth 16384
set_option maxHeartbeats 4000000

noncomputable section

namespace Cert.KernelIdeal.Words

open Idealize.ShloMosaic Cert.Cipher

/-- A natural number as a float of the ideal instance. -/
abbrev num (n : Nat) : Ideal .f32 := ((n : ℝ) : EReal)

theorem thousandth : Scalar.ofBits (F := Ideal) .f32 0x3A83126F#32 = ((8589935 / 2 ^ 33 : ℝ) : EReal) := by
  simp [Scalar.ofBits, Ideal.ofBits, Ideal.ieee, -EReal.coe_mul]; norm_num

theorem thousand : Scalar.ofBits (F := Ideal) .f32 0x447A0000#32 = ((1000 : ℝ) : EReal) := by
  simp [Scalar.ofBits, Ideal.ofBits, Ideal.ieee, -EReal.coe_mul]; norm_num

theorem weight536 : Scalar.ofBits (F := Ideal) .f32 0x44060000#32 = ((536 : ℝ) : EReal) := by
  simp [Scalar.ofBits, Ideal.ofBits, Ideal.ieee, -EReal.coe_mul]; norm_num

theorem weight296 : Scalar.ofBits (F := Ideal) .f32 0x43940000#32 = ((296 : ℝ) : EReal) := by
  simp [Scalar.ofBits, Ideal.ofBits, Ideal.ieee, -EReal.coe_mul]; norm_num

theorem zero : Scalar.ofBits (F := Ideal) .f32 0x00000000#32 = ((0 : ℝ) : EReal) := by
  simp [Scalar.ofBits, Ideal.ofBits, Ideal.ieee]

/-- The float product by about a thousandth has the whole part of the quotient, for numbers in range. -/
theorem whole (n : Nat) (h : n < 1048576) : ⌊(n : ℝ) * (8589935 / 2 ^ 33)⌋ = ((n / 1000 : Nat) : Int) := by
  rw [Int.floor_eq_iff]
  have hd : n = 1000 * (n / 1000) + n % 1000 := (Nat.div_add_mod n 1000).symm
  have hr : n % 1000 < 1000 := Nat.mod_lt _ (by norm_num)
  have hq : n / 1000 ≤ 1048 := by omega
  generalize n / 1000 = q at *
  generalize n % 1000 = r at *
  have h1 : (r : ℝ) ≤ 999 := by exact_mod_cast Nat.le_of_lt_succ hr
  have h2 : (q : ℝ) ≤ 1048 := by exact_mod_cast hq
  have h3 : (0 : ℝ) ≤ r := Nat.cast_nonneg r
  have h4 : (0 : ℝ) ≤ q := Nat.cast_nonneg q
  subst hd
  push_cast
  constructor <;> norm_num <;> linarith

theorem red_num (n : Nat) (h : n < 1048576) : red Ideal (num n) = num (n % 1000) := by
  unfold red
  rw [thousandth, thousand]
  simp only [Ideal.subf_def, Ideal.mulf_def, Ideal.floor_def, ← EReal.coe_mul, Ideal.liftRound_coe, whole n h, ← EReal.coe_sub]
  rw [EReal.coe_eq_coe_iff]
  have hd : (n : ℝ) = 1000 * ((n / 1000 : Nat) : ℝ) + ((n % 1000 : Nat) : ℝ) := by exact_mod_cast (Nat.div_add_mod n 1000).symm
  simp only [Int.cast_natCast]
  linarith

/-- The kernel's remainder of a natural number in range is its remainder. -/
theorem rem_num (n : Nat) (h : n < 1048576) : rem Ideal (num n) = num (n % 1000) := by
  have hr : n % 1000 < 1000 := Nat.mod_lt _ (by norm_num)
  unfold rem
  rw [red_num n h]
  have h1 : up Ideal (num (n % 1000)) = num (n % 1000) := by
    unfold up
    rw [zero]
    have : ¬ ((n % 1000 : Nat) : ℝ) < 0 := not_lt.2 (Nat.cast_nonneg _)
    show Scalar.select (BitVec.ofBool (decide (num (n % 1000) < ((0 : ℝ) : EReal)))) _ _ = _
    rw [decide_eq_false (by rw [EReal.coe_lt_coe_iff]; exact this)]
    rfl
  rw [h1]
  unfold down
  rw [thousand]
  have : ¬ (1000 : ℝ) ≤ ((n % 1000 : Nat) : ℝ) := by
    rw [not_le]; exact_mod_cast hr
  show Scalar.select (BitVec.ofBool (decide (((1000 : ℝ) : EReal) ≤ num (n % 1000)))) _ _ = _
  rw [decide_eq_false (by rw [EReal.coe_le_coe_iff]; exact this)]
  rfl

/-- A word below half its range is read as its number. -/
theorem sitofp_small (w : W) (n : Nat) (hn : w.toNat = n) (h : n < 2147483648) :
    FloatOps.sitofp (F := Ideal) .f32 w = num n := by
  show ((w.toInt : ℝ) : EReal) = _
  rw [BitVec.toInt_eq_toNat_of_lt (by omega), hn, Int.cast_natCast]

/-- The kernel's remainder of a word is the remainder of its number. -/
theorem wordRem_num (w : W) : wordRem Ideal w = num (w.toNat % 1000) := by
  have hw := w.isLt
  have e1 : FloatOps.sitofp (F := Ideal) .f32 (IntOp.shrui .vector w 16#32) = num (w.toNat / 65536) :=
    sitofp_small _ _ (by simp [IntOp.shrui, Nat.shiftRight_eq_div_pow]) (by omega)
  have e2 : FloatOps.sitofp (F := Ideal) .f32 (IntOp.andi w 65535#32) = num (w.toNat % 65536) :=
    sitofp_small _ _ (by
      rw [IntOp.andi, BitVec.toNat_and]
      exact Nat.and_two_pow_sub_one_eq_mod w.toNat 16) (by omega)
  unfold wordRem
  rw [e1, e2, rem_num _ (by omega), rem_num _ (by omega), weight536]
  have e3 : FloatOps.addf (F := Ideal) (φ := .f32) (FloatOps.mulf (num (w.toNat / 65536 % 1000)) ((536 : ℝ) : EReal)) (num (w.toNat % 65536 % 1000))
      = num (w.toNat / 65536 % 1000 * 536 + w.toNat % 65536 % 1000) := by
    simp only [Ideal.addf_def, Ideal.mulf_def, ← EReal.coe_mul, ← EReal.coe_add]
    push_cast
    rfl
  rw [e3, rem_num _ (by omega)]
  refine congrArg num ?_
  omega

/-- The kernel's token, in naturals. -/
theorem token_num (hi lo : W) :
    token Ideal hi lo = BitVec.ofNat 32 ((hi.toNat % 1000 * 296 + lo.toNat % 1000) % 1000) := by
  unfold token mix
  rw [wordRem_num, wordRem_num, weight296]
  have e3 : FloatOps.addf (F := Ideal) (φ := .f32) (FloatOps.mulf (num (hi.toNat % 1000)) ((296 : ℝ) : EReal)) (num (lo.toNat % 1000))
      = num (hi.toNat % 1000 * 296 + lo.toNat % 1000) := by
    simp only [Ideal.addf_def, Ideal.mulf_def, ← EReal.coe_mul, ← EReal.coe_add]
    push_cast
    rfl
  rw [e3, rem_num _ (by omega)]
  generalize hn : (hi.toNat % 1000 * 296 + lo.toNat % 1000) % 1000 = n
  have hn : n < 1000 := by omega
  show Ideal.fptosi 32 ((n : ℝ) : EReal) = _
  rw [Ideal.fptosi, Ideal.toIntClamped_coe, if_pos (Nat.cast_nonneg n), Int.floor_natCast]
  rw [show max (-((2 ^ (32 - 1) : Nat) : Int)) (min (((2 ^ (32 - 1) : Nat) : Int) - 1) (n : Int)) = n by omega]
  exact BitVec.ofInt_natCast _ _

end Cert.KernelIdeal.Words
-- ==== Proof.Line.lean ====
/- A long straight line of host operations read as a system of equations: when each operation writes a buffer that
   no earlier operation has written or read, every operation's defining equation still holds at the end. -/
module

public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}

/-- The position of a buffer in its table. -/
abbrev key (r : Ref sig .tc) : Nat := r.idx.val

/-- What a typed reference's buffer holds in `V`, at the value's type. -/
def get {T : BufTy} (V : Valuation τ sig Val) (x : TRef sig T) : T.Contents Val :=
  x.ofBuf (V (Proc.devRef .tc x.ref))

theorem get_congr {T : BufTy} {V W : Valuation τ sig Val} (x : TRef sig T)
    (h : W (Proc.devRef .tc x.ref) = V (Proc.devRef .tc x.ref)) : get W x = get V x := by
  unfold get; rw [h]

/-- A reference as a typed one, at its own type. -/
abbrev ofRef (x : Ref sig .tc) (h : x.space ≠ .host ∧ (Proc.devRef (τ := τ) .tc x).isScoped = false) : TRef sig x.ty :=
  ⟨x, rfl, h.1, h.2⟩

/-- One host operation with the equation that it establishes between the buffers it reads and the one it writes. -/
structure Step (τ : Topo) (sig : RefSig) (Val : EltTy → Type) where
  op : HloOp τ sig Val
  reads : List Nat
  dst : Ref sig .tc
  eqn : Valuation τ sig Val → Prop
  writes : op.writes = {Proc.devRef .tc dst}
  sub : op.bufs ⊆ tcRefs τ sig
  fresh : op.fresh = ∅
  sound : (∀ k ∈ reads, k < key dst) → ∀ V, eqn (op.result V)
  keep : ∀ V W : Valuation τ sig Val,
    (∀ r : Ref sig .tc, key r ∈ key dst :: reads → W (Proc.devRef .tc r) = V (Proc.devRef .tc r)) → eqn V → eqn W

namespace Step

variable {T Tx Ta Tb Tc Ty : BufTy}

/-- A constant. -/
def nullary (y : TRef sig Ty) (v : Ty.Contents Val) : Step τ sig Val where
  op := TRef.nullary y v
  reads := []
  dst := y.ref
  eqn V := get V y = v
  writes := rfl
  sub := by apply nullary_bufs_sub
  fresh := rfl
  sound _ V := by
    obtain ⟨y, rfl, _, _⟩ := y
    exact nullary_result y v _ V
  keep V W h e := by rw [get_congr y (h _ (by simp))]; exact e

/-- An operation of one operand. -/
def unary (x : TRef sig Tx) (y : TRef sig Ty) (f : Tx.Contents Val → Ty.Contents Val) : Step τ sig Val where
  op := TRef.unary x y f
  reads := [key x.ref]
  dst := y.ref
  eqn V := get V y = f (get V x)
  writes := rfl
  sub := by apply unary_bufs_sub
  fresh := rfl
  sound hr V := by
    have hx : x.ref ≠ y.ref := fun e => by have := hr (key x.ref) (by simp); rw [e] at this; omega
    rw [get_congr x (result_of_writes_ne _ V _ _ rfl hx)]
    obtain ⟨x, rfl, _, _⟩ := x
    obtain ⟨y, rfl, _, _⟩ := y
    exact unary_result x y f _ _ V
  keep V W h e := by rw [get_congr y (h _ (by simp)), get_congr x (h _ (by simp))]; exact e

/-- An operation of two operands. -/
def binary (a : TRef sig Ta) (b : TRef sig Tb) (y : TRef sig Ty)
    (f : Ta.Contents Val → Tb.Contents Val → Ty.Contents Val) : Step τ sig Val where
  op := TRef.binary a b y f
  reads := [key a.ref, key b.ref]
  dst := y.ref
  eqn V := get V y = f (get V a) (get V b)
  writes := rfl
  sub := by apply binary_bufs_sub
  fresh := rfl
  sound hr V := by
    have ha : a.ref ≠ y.ref := fun e => by have := hr (key a.ref) (by simp); rw [e] at this; omega
    have hb : b.ref ≠ y.ref := fun e => by have := hr (key b.ref) (by simp); rw [e] at this; omega
    rw [get_congr a (result_of_writes_ne _ V _ _ rfl ha), get_congr b (result_of_writes_ne _ V _ _ rfl hb)]
    obtain ⟨a, rfl, _, _⟩ := a
    obtain ⟨b, rfl, _, _⟩ := b
    obtain ⟨y, rfl, _, _⟩ := y
    exact binary_result a b y f _ _ _ V
  keep V W h e := by
    rw [get_congr y (h _ (by simp)), get_congr a (h _ (by simp)), get_congr b (h _ (by simp))]; exact e

/-- An operation of three operands. -/
def ternary (c : TRef sig Tc) (a : TRef sig Ta) (b : TRef sig Tb) (y : TRef sig Ty)
    (f : Tc.Contents Val → Ta.Contents Val → Tb.Contents Val → Ty.Contents Val) : Step τ sig Val where
  op := TRef.ternary c a b y f
  reads := [key c.ref, key a.ref, key b.ref]
  dst := y.ref
  eqn V := get V y = f (get V c) (get V a) (get V b)
  writes := rfl
  sub := by apply ternary_bufs_sub
  fresh := rfl
  sound hr V := by
    have hc : c.ref ≠ y.ref := fun e => by have := hr (key c.ref) (by simp); rw [e] at this; omega
    have ha : a.ref ≠ y.ref := fun e => by have := hr (key a.ref) (by simp); rw [e] at this; omega
    have hb : b.ref ≠ y.ref := fun e => by have := hr (key b.ref) (by simp); rw [e] at this; omega
    rw [get_congr c (result_of_writes_ne _ V _ _ rfl hc), get_congr a (result_of_writes_ne _ V _ _ rfl ha),
      get_congr b (result_of_writes_ne _ V _ _ rfl hb)]
    obtain ⟨c, rfl, _, _⟩ := c
    obtain ⟨a, rfl, _, _⟩ := a
    obtain ⟨b, rfl, _, _⟩ := b
    obtain ⟨y, rfl, _, _⟩ := y
    exact ternary_result c a b y f _ _ _ _ V
  keep V W h e := by
    rw [get_congr y (h _ (by simp)), get_congr c (h _ (by simp)), get_congr a (h _ (by simp)),
      get_congr b (h _ (by simp))]
    exact e

/-- A reshape. -/
def reshape (x : TRef sig Tx) (y : TRef sig Ty) (he : Tx.elt = Ty.elt) (hn : Tx.shape.ShapeCasts Ty.shape) :
    Step τ sig Val where
  op := TRef.reshape x y he hn
  reads := [key x.ref]
  dst := y.ref
  eqn V := get V y = fun i => he ▸ shapeCast Ty.shape (get V x) hn i
  writes := rfl
  sub := by apply reshape_bufs_sub
  fresh := rfl
  sound hr V := by
    have hx : x.ref ≠ y.ref := fun e => by have := hr (key x.ref) (by simp); rw [e] at this; omega
    rw [get_congr x (result_of_writes_ne _ V _ _ rfl hx)]
    obtain ⟨x, rfl, _, _⟩ := x
    obtain ⟨y, rfl, _, _⟩ := y
    exact reshape_result x y _ _ _ _ V
  keep V W h e := by rw [get_congr y (h _ (by simp)), get_congr x (h _ (by simp))]; exact e

end Step

/-- Every step's equation holds in `V`. -/
def Holds (V : Valuation τ sig Val) : List (Step τ sig Val) → Prop
  | [] => True
  | s :: l => s.eqn V ∧ Holds V l

theorem holds_append {V : Valuation τ sig Val} : ∀ {l l' : List (Step τ sig Val)}, Holds V (l ++ l') → Holds V l ∧ Holds V l'
  | [], _, h => ⟨trivial, h⟩
  | _ :: _, _, h => ⟨⟨h.1, (holds_append h.2).1⟩, (holds_append h.2).2⟩

/-- Each step writes a buffer beyond `k`, beyond the buffers it reads and beyond those of the steps before it. -/
def ordered : Nat → List (Step τ sig Val) → Bool
  | _, [] => true
  | k, s :: l => Nat.blt k (key s.dst) && s.reads.all (fun r => Nat.blt r (key s.dst)) && ordered (key s.dst) l

/-- After an ordered line every step's equation holds, and the buffers up to `k` are as before. -/
theorem holds_after : ∀ (l : List (Step τ sig Val)) (k : Nat) (V : Valuation τ sig Val), ordered k l = true →
    Holds (after (l.map Step.op) V) l ∧
      ∀ r : Ref sig .tc, key r ≤ k → after (l.map Step.op) V (Proc.devRef .tc r) = V (Proc.devRef .tc r)
  | [], _, _, _ => ⟨trivial, fun _ _ => rfl⟩
  | s :: l, k, V, h => by
    simp only [ordered, Bool.and_eq_true, List.all_eq_true, Nat.blt_eq] at h
    obtain ⟨⟨hk, hr⟩, hl⟩ := h
    obtain ⟨ih, ik⟩ := holds_after l (key s.dst) (s.op.result V) hl
    simp only [List.map_cons, after_cons]
    refine ⟨⟨s.keep _ _ (fun r hm => ik r ?_) (s.sound hr V), ih⟩, fun r hle => ?_⟩
    · rcases List.mem_cons.mp hm with e | hm
      · exact e.le
      · exact (hr _ hm).le
    · rw [ik r (by omega)]
      exact result_of_writes_ne s.op V s.dst r s.writes fun e => by rw [e] at hle; omega

/-- A program that is the straight line of the steps' operations. -/
def Is (p : Prog (TpuEff nD τ sig Val Λ .tc) PUnit) (l : List (Step τ sig Val)) : Prop := IsSeq p (l.map Step.op)

/-- One straight line after another. -/
theorem Is.append {p k : Prog (TpuEff nD τ sig Val Λ .tc) PUnit} {l' l : List (Step τ sig Val)} (h : Is p l')
    (h' : Is k l) : Is (p >>= fun _ => k) (l' ++ l) := by
  unfold Is IsSeq at *; rw [List.map_append, seq_append, h, h']

/-- A program whose steps are found operation by operation, by the instances below. -/
class Lined (p : Prog (TpuEff nD τ sig Val Λ .tc) PUnit) where
  steps : List (Step τ sig Val)
  is : Is p steps

namespace Lined

variable {k : Prog (TpuEff nD τ sig Val Λ .tc) PUnit} {Tx Ta Tb Tc Ty : BufTy}

/-- A program that is, by its definition, one whose steps are found. -/
abbrev of (p : Prog (TpuEff nD τ sig Val Λ .tc) PUnit) {q : Prog (TpuEff nD τ sig Val Λ .tc) PUnit} [h : Lined q]
    (e : p = q) : Lined p := ⟨h.steps, e ▸ h.is⟩

/-- One step in front of a program. -/
abbrev cons (s : Step τ sig Val) (h : Lined k) :
    Lined ((hlo rfl s.op fun _ => .ret (⟨⟩ : PUnit)) >>= fun _ => k : Prog (TpuEff nD τ sig Val Λ .tc) PUnit) :=
  ⟨s :: h.steps, IsSeq.cons h.is⟩

instance nil : Lined (pure ⟨⟩ : Prog (TpuEff nD τ sig Val Λ .tc) PUnit) := ⟨[], rfl⟩

instance (priority := low) append {p : Prog (TpuEff nD τ sig Val Λ .tc) PUnit} [h' : Lined p] [h : Lined k] :
    Lined (p >>= fun _ => k) :=
  ⟨h'.steps ++ h.steps, h'.is.append h.is⟩

instance last {op : HloOp τ sig Val}
    [h : Lined ((hlo rfl op fun _ => .ret (⟨⟩ : PUnit)) >>= fun _ => (pure ⟨⟩ : Prog (TpuEff nD τ sig Val Λ .tc) PUnit))] :
    Lined (nD := nD) (Λ := Λ) (hlo rfl op fun _ => .ret (⟨⟩ : PUnit)) := ⟨h.steps, h.is⟩

/-! The operations between typed references; after them those of the entry function, between plain ones, which are
    tried later. -/

instance nullary {y : TRef sig Ty} {v : Ty.Contents Val}
    [h : Lined k] :
    Lined ((hlo rfl (no_index (TRef.nullary y v)) fun _ => .ret (⟨⟩ : PUnit)) >>= fun _ => k) :=
  cons (Step.nullary y v) h

instance unary {x : TRef sig Tx} {y : TRef sig Ty} {f : Tx.Contents Val → Ty.Contents Val}
    [h : Lined k] :
    Lined ((hlo rfl (TRef.unary x y f) fun _ => .ret (⟨⟩ : PUnit)) >>= fun _ => k) :=
  cons (Step.unary x y f) h

instance binary {a : TRef sig Ta} {b : TRef sig Tb} {y : TRef sig Ty} {f : Ta.Contents Val → Tb.Contents Val → Ty.Contents Val}
    [h : Lined k] :
    Lined ((hlo rfl (TRef.binary a b y f) fun _ => .ret (⟨⟩ : PUnit)) >>= fun _ => k) :=
  cons (Step.binary a b y f) h

instance ternary {c : TRef sig Tc} {a : TRef sig Ta} {b : TRef sig Tb} {y : TRef sig Ty}
    {f : Tc.Contents Val → Ta.Contents Val → Tb.Contents Val → Ty.Contents Val}
    [h : Lined k] :
    Lined ((hlo rfl (TRef.ternary c a b y f) fun _ => .ret (⟨⟩ : PUnit)) >>= fun _ => k) :=
  cons (Step.ternary c a b y f) h

instance reshape {x : TRef sig Tx} {y : TRef sig Ty} {he : Tx.elt = Ty.elt} {hn : Tx.shape.ShapeCasts Ty.shape}
    [h : Lined k] :
    Lined ((hlo rfl (TRef.reshape x y he hn) fun _ => .ret (⟨⟩ : PUnit)) >>= fun _ => k) :=
  cons (Step.reshape x y he hn) h

instance (priority := mid) nullary' {y : Ref sig .tc} {v : y.ty.Contents Val} {hy}
    [h : Lined k] :
    Lined ((hlo rfl (StableHlo.nullary y v hy) fun _ => .ret (⟨⟩ : PUnit)) >>= fun _ => k) :=
  cons (Step.nullary (ofRef (τ := τ) y hy) v) h

instance (priority := mid) unary' {x y : Ref sig .tc} {f : x.ty.Contents Val → y.ty.Contents Val} {hx hy}
    [h : Lined k] :
    Lined ((hlo rfl (StableHlo.unary x y f hx hy) fun _ => .ret (⟨⟩ : PUnit)) >>= fun _ => k) :=
  cons (Step.unary (ofRef (τ := τ) x hx) (ofRef (τ := τ) y hy) f) h

instance (priority := mid) binary' {a b y : Ref sig .tc} {f : a.ty.Contents Val → b.ty.Contents Val → y.ty.Contents Val} {ha hb hy}
    [h : Lined k] :
    Lined ((hlo rfl (StableHlo.binary a b y f ha hb hy) fun _ => .ret (⟨⟩ : PUnit)) >>= fun _ => k) :=
  cons (Step.binary (ofRef (τ := τ) a ha) (ofRef (τ := τ) b hb) (ofRef (τ := τ) y hy) f) h

instance (priority := mid) reshape' {x y : Ref sig .tc} {he : x.ty.elt = y.ty.elt} {hn : x.ty.shape.ShapeCasts y.ty.shape} {hx hy}
    [h : Lined k] :
    Lined ((hlo rfl (StableHlo.reshape x y he hn hx hy) fun _ => .ret (⟨⟩ : PUnit)) >>= fun _ => k) :=
  cons (Step.reshape (ofRef (τ := τ) x hx) (ofRef (τ := τ) y hy) he hn) h

end Lined

/-- A program whose `main` is an ordered line runs, and ends with every step's equation true of what each device's
    buffers hold and the buffers up to `k` as they were at the start. -/
theorem run (defs : Defs nD τ sig Val Λ) (main : Dev nD → Prog (TpuEff nD τ sig Val Λ .tc) PUnit)
    {l : List (Step τ sig Val)} (hmain : ∀ d, Is (main d) l) (k : Nat) (hl : ordered k l = true)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD, ∃ V : Valuation τ sig Val, Holds V l ∧
        (∀ b : Ref sig .tc, r.2.mem ((d.tc : Thread nD τ).loc b) = V (Proc.devRef .tc b)) ∧
        ∀ b : Ref sig .tc, key b ≤ k → V (Proc.devRef .tc b) = m ((d.tc : Thread nD τ).loc b) := by
  refine θ_run_mono (run_hlo defs main hmain hR hC ?_ ?_ m ρ) fun r hr d => ?_
  · rw [List.forall_iff_forall_mem]
    intro op hop
    obtain ⟨s, _, rfl⟩ := List.mem_map.mp hop
    exact s.sub
  · intro op hop
    obtain ⟨s, _, rfl⟩ := List.mem_map.mp hop
    exact s.fresh
  · obtain ⟨h1, h2⟩ := holds_after l k (launchContents m d) hl
    exact ⟨_, h1, hr d, h2⟩

end Cert.Line

end
-- ==== Proof.RefFns.lean ====
/- The reference program and its functions as straight lines of steps. -/
module

public import proofs.«01_k».proof.Proof.Gen.ReferenceIdeal
public import proofs.«01_k».proof.Proof.Line
public import Idealize.ShloMosaic.PureOps.Ideal

@[expose] public section

set_option maxRecDepth 16384
set_option maxHeartbeats 4000000
set_option synthInstance.maxHeartbeats 4000000
set_option synthInstance.maxSize 4096

noncomputable section

namespace Cert.ReferenceIdeal.Ln

open Idealize.ShloMosaic Idealize.ShloMosaic.StableHlo Idealize.SL.Sem Cert.Line
open Cert.ReferenceIdeal Cert.ReferenceIdeal.Gen

/-- A list of the reference's steps. -/
abbrev Steps : Type := List (Step τ sig (Elt Ideal))

/-- The cipher on two counters: part 0 of its body. -/
instance tfA0 (a0 a1 : TRef sig ⟨S_, .i32⟩) (a2 a3 : TRef sig ⟨S2, .i32⟩) (φ : fn_threefry2x32.Bufs) :
    Lined (fn_threefry2x32.body_part0 (F := Ideal) a0 a1 a2 a3 φ) :=
  .of _ (fn_threefry2x32.body_part0.eq_1 ..)

/-- The cipher on two counters: part 1 of its body. -/
instance tfA1 (a0 a1 : TRef sig ⟨S_, .i32⟩) (a2 a3 : TRef sig ⟨S2, .i32⟩) (φ : fn_threefry2x32.Bufs) :
    Lined (fn_threefry2x32.body_part1 (F := Ideal) a0 a1 a2 a3 φ) :=
  .of _ (fn_threefry2x32.body_part1.eq_1 ..)

/-- The cipher on two counters: part 2 of its body. -/
instance tfA2 (a0 a1 : TRef sig ⟨S_, .i32⟩) (a2 a3 : TRef sig ⟨S2, .i32⟩) (φ : fn_threefry2x32.Bufs) :
    Lined (fn_threefry2x32.body_part2 (F := Ideal) a0 a1 a2 a3 φ) :=
  .of _ (fn_threefry2x32.body_part2.eq_1 ..)

/-- The cipher on two counters: part 3 of its body. -/
instance tfA3 (a0 a1 : TRef sig ⟨S_, .i32⟩) (a2 a3 : TRef sig ⟨S2, .i32⟩) (φ : fn_threefry2x32.Bufs) :
    Lined (fn_threefry2x32.body_part3 (F := Ideal) a0 a1 a2 a3 φ) :=
  .of _ (fn_threefry2x32.body_part3.eq_1 ..)

/-- The cipher on two counters. -/
instance tfA (a0 a1 : TRef sig ⟨S_, .i32⟩) (a2 a3 : TRef sig ⟨S2, .i32⟩) (φ : fn_threefry2x32.Bufs) :
    Lined (fn_threefry2x32.body (F := Ideal) a0 a1 a2 a3 φ) :=
  .of _ (fn_threefry2x32.body.eq_1 ..)

/-- The cipher on the whole array of counters: part 0 of its body. -/
instance tfB0 (a0 a1 : TRef sig ⟨S_, .i32⟩) (a2 a3 : TRef sig ⟨S32x2048, .i32⟩) (φ : fn_threefry2x32_0.Bufs) :
    Lined (fn_threefry2x32_0.body_part0 (F := Ideal) a0 a1 a2 a3 φ) :=
  .of _ (fn_threefry2x32_0.body_part0.eq_1 ..)

/-- The cipher on the whole array of counters: part 1 of its body. -/
instance tfB1 (a0 a1 : TRef sig ⟨S_, .i32⟩) (a2 a3 : TRef sig ⟨S32x2048, .i32⟩) (φ : fn_threefry2x32_0.Bufs) :
    Lined (fn_threefry2x32_0.body_part1 (F := Ideal) a0 a1 a2 a3 φ) :=
  .of _ (fn_threefry2x32_0.body_part1.eq_1 ..)

/-- The cipher on the whole array of counters: part 2 of its body. -/
instance tfB2 (a0 a1 : TRef sig ⟨S_, .i32⟩) (a2 a3 : TRef sig ⟨S32x2048, .i32⟩) (φ : fn_threefry2x32_0.Bufs) :
    Lined (fn_threefry2x32_0.body_part2 (F := Ideal) a0 a1 a2 a3 φ) :=
  .of _ (fn_threefry2x32_0.body_part2.eq_1 ..)

/-- The cipher on the whole array of counters: part 3 of its body. -/
instance tfB3 (a0 a1 : TRef sig ⟨S_, .i32⟩) (a2 a3 : TRef sig ⟨S32x2048, .i32⟩) (φ : fn_threefry2x32_0.Bufs) :
    Lined (fn_threefry2x32_0.body_part3 (F := Ideal) a0 a1 a2 a3 φ) :=
  .of _ (fn_threefry2x32_0.body_part3.eq_1 ..)

/-- The cipher on the whole array of counters. -/
instance tfB (a0 a1 : TRef sig ⟨S_, .i32⟩) (a2 a3 : TRef sig ⟨S32x2048, .i32⟩) (φ : fn_threefry2x32_0.Bufs) :
    Lined (fn_threefry2x32_0.body (F := Ideal) a0 a1 a2 a3 φ) :=
  .of _ (fn_threefry2x32_0.body.eq_1 ..)

/-- The first key split. -/
instance split (a0 : TRef sig ⟨S2, .i32⟩) (φ : fn_threefry_split.Bufs) :
    Lined (fn_threefry_split.body (F := Ideal) a0 φ) :=
  .of _ (fn_threefry_split.body.eq_1 ..)

/-- The second key split. -/
instance split2 (a0 : TRef sig ⟨S2, .i32⟩) (φ : fn_threefry_split_2.Bufs) :
    Lined (fn_threefry_split_2.body (F := Ideal) a0 φ) :=
  .of _ (fn_threefry_split_2.body.eq_1 ..)

/-- Uniform numbers. -/
instance uniform (a0 : TRef sig ⟨S2, .i32⟩) (a1 a2 : TRef sig ⟨S_, .f32⟩) (φ : fn_uniform.Bufs) :
    Lined (fn_uniform.body (F := Ideal) a0 a1 a2 φ) :=
  .of _ (fn_uniform.body.eq_1 ..)

/-- The Bernoulli mask. -/
instance bernoulli (a0 : TRef sig ⟨S2, .i32⟩) (a1 : TRef sig ⟨S_, .f32⟩) (φ : fn_bernoulli.Bufs) :
    Lined (fn_bernoulli.body (F := Ideal) a0 a1 φ) :=
  .of _ (fn_bernoulli.body.eq_1 ..)

/-- A clip. -/
instance clip (a0 a1 a2 : TRef sig ⟨S_, .i32⟩) (φ : fn_clip.Bufs) :
    Lined (fn_clip.body (F := Ideal) a0 a1 a2 φ) :=
  .of _ (fn_clip.body.eq_1 ..)

/-- A clip. -/
instance clip1 (a0 a1 a2 : TRef sig ⟨S_, .i32⟩) (φ : fn_clip_1.Bufs) :
    Lined (fn_clip_1.body (F := Ideal) a0 a1 a2 φ) :=
  .of _ (fn_clip_1.body.eq_1 ..)

/-- Random integers: the random words. -/
instance randint0 (a0 : TRef sig ⟨S2, .i32⟩) (a1 a2 : TRef sig ⟨S_, .i32⟩) (φ : fn_randint.Bufs) :
    Lined (fn_randint.body_part0 (F := Ideal) a0 a1 a2 φ) :=
  .of _ (fn_randint.body_part0.eq_1 ..)

/-- Random integers: the reduction into the range. -/
instance randint1 (a0 : TRef sig ⟨S2, .i32⟩) (a1 a2 : TRef sig ⟨S_, .i32⟩) (φ : fn_randint.Bufs) :
    Lined (fn_randint.body_part1 (F := Ideal) a0 a1 a2 φ) :=
  .of _ (fn_randint.body_part1.eq_1 ..)

/-- Random integers. -/
instance randint (a0 : TRef sig ⟨S2, .i32⟩) (a1 a2 : TRef sig ⟨S_, .i32⟩) (φ : fn_randint.Bufs) :
    Lined (fn_randint.body (F := Ideal) a0 a1 a2 φ) :=
  .of _ (fn_randint.body.eq_1 ..)

/-- The one-hot rows. -/
instance oneHot (a0 : TRef sig ⟨S32x2048, .i32⟩) (φ : fn_one_hot.Bufs) :
    Lined (fn_one_hot.body (F := Ideal) a0 φ) :=
  .of _ (fn_one_hot.body.eq_1 ..)

/-- The selection. -/
instance whereS (a0 : TRef sig ⟨S32x2048x1, .i1⟩) (a1 a2 : TRef sig ⟨S32x2048x1000, .f32⟩) (φ : fn_where.Bufs) :
    Lined (fn_where.body (F := Ideal) a0 a1 a2 φ) :=
  .of _ (fn_where.body.eq_1 ..)

end Cert.ReferenceIdeal.Ln

end
-- ==== Proof.RefCipher.lean ====
/- The reference's cipher: what the two results of a call of it hold at an index, in terms of the key words and of
   the counter words there. -/
module

public import proofs.«01_k».proof.Proof.Cipher
public import proofs.«01_k».proof.Proof.RefFns
public import Idealize.ShloMosaic.Lib.IdealHost

@[expose] public section

set_option maxRecDepth 16384
set_option maxHeartbeats 4000000

noncomputable section

namespace Cert.ReferenceIdeal.Ln

open Idealize.ShloMosaic Idealize.ShloMosaic.StableHlo Idealize.ShloMosaic.ValueIdx Idealize.SL.Sem
open Cert.Line Cert.Cipher Cert.ReferenceIdeal Cert.ReferenceIdeal.Gen

/-- What the reference's buffers hold. -/
abbrev Val := Valuation τ sig (Elt Ideal)

/-- At the index `j` the buffers `x`, `y` hold the two words of `p`. -/
def At {S : Shape} (V : Val) (j : S.Idx) (x y : TRef sig ⟨S, .i32⟩) (p : W × W) : Prop :=
  (get V x : IVec S 32) j = p.1 ∧ (get V y : IVec S 32) j = p.2

/-- The word that a scalar buffer holds. -/
def word (V : Val) (x : TRef sig ⟨S_, .i32⟩) : W := (get V x : IVec S_ 32) ix0

variable {S : Shape} {hb : S_.BroadcastsInDim S (![] : Fin 0 → Fin S.rank)} {V : Val} {j : S.Idx} {l : Steps}

/-- One round of the reference's text. -/
theorem round {x0 x1 y0 v7 v8 v9 v10 v11 y1 : TRef sig ⟨S, .i32⟩} {c c' : TRef sig ⟨S_, .i32⟩} {r s : W} {p : W × W}
    (h : At V j x0 x1 p ∧ Holds V (Step.binary x0 x1 y0 addi :: Step.nullary c (constantI S_ 32 r) ::
      Step.unary c v7 (broadcastInDim S ![] hb) :: Step.binary x1 v7 v8 Host.shli ::
      Step.nullary c' (constantI S_ 32 s) :: Step.unary c' v9 (broadcastInDim S ![] hb) ::
      Step.binary x1 v9 v10 Host.shrui :: Step.binary v8 v10 v11 ori :: Step.binary y0 v11 y1 xori :: l)) :
    At V j y0 y1 (rnd r s p) ∧ Holds V l := by
  obtain ⟨⟨hx, hy⟩, e0, e1, e2, e3, e4, e5, e6, e7, e8, hl⟩ := h
  have g0 : (get V y0 : IVec S 32) j = IntOp.addi p.1 p.2 := by
    rw [← hx, ← hy]; exact congrFun e0 j
  refine ⟨⟨g0, ?_⟩, hl⟩
  have g8 : (get V y1 : IVec S 32) j = IntOp.xori ((get V y0 : IVec S 32) j) ((get V v11 : IVec S 32) j) := congrFun e8 j
  have g7 : (get V v11 : IVec S 32) j = IntOp.ori ((get V v8 : IVec S 32) j) ((get V v10 : IVec S 32) j) := congrFun e7 j
  have g3 : (get V v8 : IVec S 32) j = IntOp.shli .host ((get V x1 : IVec S 32) j) ((get V v7 : IVec S 32) j) := congrFun e3 j
  have g6 : (get V v10 : IVec S 32) j = IntOp.shrui .host ((get V x1 : IVec S 32) j) ((get V v9 : IVec S 32) j) := congrFun e6 j
  have g2 : (get V v7 : IVec S 32) j = r := (congrFun e2 j).trans ((broadcastInDim_scalar_apply hb _ j).trans (congrFun e1 ix0))
  have g5 : (get V v9 : IVec S 32) j = s := (congrFun e5 j).trans ((broadcastInDim_scalar_apply hb _ j).trans (congrFun e4 ix0))
  rw [g8, g7, g3, g6, g2, g5, g0, hy, shli_host, shrui_host]
  exact BitVec.xor_comm _ _

/-- A key addition of the reference's text: its second word is the key word plus the addition's number. -/
theorem inject {x0 x1 v34 y0 v36 v37 v38 y1 : TRef sig ⟨S, .i32⟩} {ka kb c : TRef sig ⟨S_, .i32⟩} {n : W} {p : W × W}
    (h : At V j x0 x1 p ∧ Holds V (Step.unary ka v34 (broadcastInDim S ![] hb) :: Step.binary x0 v34 y0 addi ::
      Step.unary kb v36 (broadcastInDim S ![] hb) :: Step.binary x1 v36 v37 addi ::
      Step.nullary c (constantI S_ 32 n) :: Step.unary c v38 (broadcastInDim S ![] hb) ::
      Step.binary v37 v38 y1 addi :: l)) :
    At V j y0 y1 (inj (word V ka) (word V kb + n) p) ∧ Holds V l := by
  obtain ⟨⟨hx, hy⟩, e0, e1, e2, e3, e4, e5, e6, hl⟩ := h
  have g0 : (get V v34 : IVec S 32) j = word V ka := (congrFun e0 j).trans (broadcastInDim_scalar_apply hb _ j)
  have g1 : (get V y0 : IVec S 32) j = IntOp.addi ((get V x0 : IVec S 32) j) ((get V v34 : IVec S 32) j) := congrFun e1 j
  have g2 : (get V v36 : IVec S 32) j = word V kb := (congrFun e2 j).trans (broadcastInDim_scalar_apply hb _ j)
  have g3 : (get V v37 : IVec S 32) j = IntOp.addi ((get V x1 : IVec S 32) j) ((get V v36 : IVec S 32) j) := congrFun e3 j
  have g5 : (get V v38 : IVec S 32) j = n := (congrFun e5 j).trans ((broadcastInDim_scalar_apply hb _ j).trans (congrFun e4 ix0))
  have g6 : (get V y1 : IVec S 32) j = IntOp.addi ((get V v37 : IVec S 32) j) ((get V v38 : IVec S 32) j) := congrFun e6 j
  refine ⟨⟨?_, ?_⟩, hl⟩
  · rw [g1, g0, hx]; rfl
  · rw [g6, g5, g3, g2, hy]; exact BitVec.add_assoc _ _ _

/-- The opening of the reference's text: the third key word, and the first key addition. -/
theorem opening {x0 x1 v2 y0 v4 y1 : TRef sig ⟨S, .i32⟩} {ka kb v0 c kc : TRef sig ⟨S_, .i32⟩}
    (h : Holds V (Step.binary ka kb v0 xori :: Step.nullary c (constantI S_ 32 466688986#32) ::
      Step.binary v0 c kc xori :: Step.unary ka v2 (broadcastInDim S ![] hb) :: Step.binary x0 v2 y0 addi ::
      Step.unary kb v4 (broadcastInDim S ![] hb) :: Step.binary x1 v4 y1 addi :: l)) :
    word V kc = k2 (word V ka) (word V kb) ∧
      At V j y0 y1 (inj (word V ka) (word V kb) ((get V x0 : IVec S 32) j, (get V x1 : IVec S 32) j)) ∧ Holds V l := by
  obtain ⟨e0, e1, e2, e3, e4, e5, e6, hl⟩ := h
  have f0 : word V v0 = word V ka ^^^ word V kb := congrFun e0 ix0
  have f1 : word V c = 466688986#32 := congrFun e1 ix0
  have f2 : word V kc = word V v0 ^^^ word V c := congrFun e2 ix0
  have g3 : (get V v2 : IVec S 32) j = word V ka := (congrFun e3 j).trans (broadcastInDim_scalar_apply hb _ j)
  have g4 : (get V y0 : IVec S 32) j = IntOp.addi ((get V x0 : IVec S 32) j) ((get V v2 : IVec S 32) j) := congrFun e4 j
  have g5 : (get V v4 : IVec S 32) j = word V kb := (congrFun e5 j).trans (broadcastInDim_scalar_apply hb _ j)
  have g6 : (get V y1 : IVec S 32) j = IntOp.addi ((get V x1 : IVec S 32) j) ((get V v4 : IVec S 32) j) := congrFun e6 j
  refine ⟨by rw [f2, f0, f1]; rfl, ⟨?_, ?_⟩, hl⟩
  · rw [g4, g3]; rfl
  · rw [g6, g5]; rfl

/-- The cipher on two counters, at the counter `j`. -/
theorem tfA_value {a0 a1 : TRef sig ⟨S_, .i32⟩} {a2 a3 : TRef sig ⟨S2, .i32⟩} {φ : fn_threefry2x32.Bufs}
    (h : Holds V (tfA a0 a1 a2 a3 φ).1) (j : S2.Idx) :
    At V j φ.v171 φ.v175 (cipher (word V a0) (word V a1) ((get V a2 : IVec S2 32) j, (get V a3 : IVec S2 32) j)) := by
  obtain ⟨hk, h⟩ := opening (j := j) h
  replace h := inject (round (round (round (round h))))
  replace h := inject (round (round (round (round h))))
  replace h := inject (round (round (round (round h))))
  replace h := inject (round (round (round (round h))))
  replace h := inject (round (round (round (round h))))
  rw [hk] at h
  exact h.1

/-- The cipher on the whole array of counters, at the counter `j`. -/
theorem tfB_value {a0 a1 : TRef sig ⟨S_, .i32⟩} {a2 a3 : TRef sig ⟨S32x2048, .i32⟩} {φ : fn_threefry2x32_0.Bufs}
    (h : Holds V (tfB a0 a1 a2 a3 φ).1) (j : S32x2048.Idx) :
    At V j φ.v171 φ.v175
      (cipher (word V a0) (word V a1) ((get V a2 : IVec S32x2048 32) j, (get V a3 : IVec S32x2048 32) j)) := by
  obtain ⟨hk, h⟩ := opening (j := j) h
  replace h := inject (round (round (round (round h))))
  replace h := inject (round (round (round (round h))))
  replace h := inject (round (round (round (round h))))
  replace h := inject (round (round (round (round h))))
  replace h := inject (round (round (round (round h))))
  rw [hk] at h
  exact h.1

end Cert.ReferenceIdeal.Ln

end
-- ==== Proof.RefWords.lean ====
/- The reference's random words: the two words of a key, the counters, and the words drawn with a key, which at an
   index are the cipher at that index's counter. -/
module

public import proofs.«01_k».proof.Proof.Array
public import proofs.«01_k».proof.Proof.RefCipher

@[expose] public section

set_option maxRecDepth 16384
set_option maxHeartbeats 4000000

noncomputable section

namespace Cert.ReferenceIdeal.Ln

open Idealize.ShloMosaic hiding ix0 ix1 ix2 ix3
open Idealize.ShloMosaic.StableHlo Idealize.ShloMosaic.ValueIdx Idealize.SL.Sem
open Cert.Line Cert.Cipher Cert.ReferenceIdeal Cert.ReferenceIdeal.Gen
open Cert.KernelIdeal.Words (both counter)

/-- What a buffer of 32-bit words holds at an index. -/
abbrev at32 {S : Shape} (V : Val) (x : TRef sig ⟨S, .i32⟩) (j : S.Idx) : BitVec 32 := (get V x : IVec S 32) j

/-- What a buffer of 64-bit words holds at an index. -/
abbrev at64 {S : Shape} (V : Val) (x : TRef sig ⟨S, .i64⟩) (j : S.Idx) : BitVec 64 := (get V x : IVec S 64) j

variable {V : Val} {l : Steps}

/-- A 64-bit word below `2 ^ 32`, shifted right by 32 bits and cut to 32, is zero. -/
theorem high_word (x : BitVec 64) (h : x.toNat < 2 ^ 32) : (IntOp.shrui .host x 32#64).setWidth 32 = 0#32 := by
  have e : IntOp.shrui .host x 32#64 = x >>> 32 := by simp [IntOp.shrui, IntOp.cornerWord]
  rw [e]
  apply BitVec.eq_of_toNat_eq
  simp [Nat.shiftRight_eq_div_pow]
  omega

/-- The two words of a key, each read as a scalar. -/
theorem keyWords {a : TRef sig ⟨S2, .i32⟩} {v0 v2 : TRef sig ⟨S1, .i32⟩} {v1 v3 : TRef sig ⟨S_, .i32⟩}
    {h0 : S2.Slices ![0] S1} {h1 : S2.Slices ![1] S1} {hc hc' : S1.ShapeCasts S_}
    (h : Holds V (Step.unary a v0 (extractStridedSlice S1 ![0] · h0) :: Step.reshape v0 v1 (rfl : (.i32 : EltTy) = .i32) hc ::
      Step.unary a v2 (extractStridedSlice S1 ![1] · h1) :: Step.reshape v2 v3 (rfl : (.i32 : EltTy) = .i32) hc' :: l)) :
    word V v1 = at32 V a (ix1 0) ∧ word V v3 = at32 V a (ix1 1) ∧ Holds V l := by
  obtain ⟨e0, e1, e2, e3, hl⟩ := h
  refine ⟨?_, ?_, hl⟩
  · refine (congrFun e1 ix0).trans ((shapeCast_apply (get V v0 : IVec S1 32) hc ix0 (ix1 0) (by decide)).trans ?_)
    exact (congrFun e0 (ix1 0)).trans (extractStridedSlice_apply _ (get V a : IVec S2 32) h0 _ (ix1 0) fun | ⟨0, _⟩ => rfl)
  · refine (congrFun e3 ix0).trans ((shapeCast_apply (get V v2 : IVec S1 32) hc' ix0 (ix1 0) (by decide)).trans ?_)
    exact (congrFun e2 (ix1 0)).trans (extractStridedSlice_apply _ (get V a : IVec S2 32) h1 _ (ix1 1) fun | ⟨0, _⟩ => rfl)

/-- One row of a pair of keys, as a key. -/
theorem keyRow {a : TRef sig ⟨S2x2, .i32⟩} {v : TRef sig ⟨S1x2, .i32⟩} {y : TRef sig ⟨S2, .i32⟩} {o : Fin 2 → Nat}
    (r : Fin 2) (h0 : S2x2.Slices o S1x2) (hc : S1x2.ShapeCasts S2) (ho : o = ![r.val, 0])
    (h : Holds V (Step.unary a v (extractStridedSlice S1x2 o · h0) ::
      Step.reshape v y (rfl : (.i32 : EltTy) = .i32) hc :: l)) :
    (∀ c : Fin 2, at32 V y (ix1 c) = at32 V a (ix2 r c)) ∧ Holds V l := by
  obtain ⟨e0, e1, hl⟩ := h
  subst ho
  refine ⟨fun c => ?_, hl⟩
  refine (congrFun e1 (ix1 c)).trans ((shapeCast_apply (get V v : IVec S1x2 32) hc _ (ix2 0 c) ?_).trans ?_)
  · revert c; decide
  · refine (congrFun e0 (ix2 0 c)).trans (extractStridedSlice_apply _ (get V a : IVec S2x2 32) h0 _ (ix2 r c) ?_)
    exact fun | ⟨0, _⟩ => rfl | ⟨1, _⟩ => (Nat.zero_add _).symm

/-- The counters of the whole array, as a high and a low word. -/
theorem counters {i0 i1 v10 v11 v12 v13 v14 v15 v16 : TRef sig ⟨S32x2048, .i64⟩} {hi lo : TRef sig ⟨S32x2048, .i32⟩}
    {c c0 c1 : TRef sig ⟨S_, .i64⟩} {hb : S_.BroadcastsInDim S32x2048 (![] : Fin 0 → Fin S32x2048.rank)} {ht : 32 < 64}
    (h : Holds V (Step.nullary i0 (iotaInDim S32x2048 64 0) :: Step.nullary i1 (iotaInDim S32x2048 64 1) ::
      Step.nullary c (constantI S_ 64 2048#64) :: Step.unary c v10 (broadcastInDim S32x2048 ![] hb) ::
      Step.binary v10 i0 v11 muli :: Step.nullary c0 (constantI S_ 64 1#64) ::
      Step.unary c0 v12 (broadcastInDim S32x2048 ![] hb) :: Step.binary v12 i1 v13 muli :: Step.binary v11 v13 v14 addi ::
      Step.nullary c1 (constantI S_ 64 32#64) :: Step.unary c1 v15 (broadcastInDim S32x2048 ![] hb) ::
      Step.binary v14 v15 v16 Host.shrui :: Step.unary v14 lo (trunci 32 · ht) :: Step.unary v16 hi (trunci 32 · ht) :: l)) :
    (∀ j : S32x2048.Idx, (at32 V hi j, at32 V lo j) = (0#32, counter (j 0).val (j 1).val)) ∧ Holds V l := by
  obtain ⟨e0, e1, e2, e3, e4, e5, e6, e7, e8, e9, e10, e11, e12, e13, hl⟩ := h
  refine ⟨fun j => ?_, hl⟩
  have g3 : at64 V v10 j = 2048#64 := (congrFun e3 j).trans ((broadcastInDim_scalar_apply hb _ j).trans (congrFun e2 ix0))
  have g6 : at64 V v12 j = 1#64 := (congrFun e6 j).trans ((broadcastInDim_scalar_apply hb _ j).trans (congrFun e5 ix0))
  have g10 : at64 V v15 j = 32#64 := (congrFun e10 j).trans ((broadcastInDim_scalar_apply hb _ j).trans (congrFun e9 ix0))
  have g0 : at64 V i0 j = BitVec.ofNat 64 (j 0).val := congrFun e0 j
  have g1 : at64 V i1 j = BitVec.ofNat 64 (j 1).val := congrFun e1 j
  have g4 : at64 V v11 j = at64 V v10 j * at64 V i0 j := congrFun e4 j
  have g7 : at64 V v13 j = at64 V v12 j * at64 V i1 j := congrFun e7 j
  have g8 : at64 V v14 j = at64 V v11 j + at64 V v13 j := congrFun e8 j
  have g11 : at64 V v16 j = IntOp.shrui .host (at64 V v14 j) (at64 V v15 j) := congrFun e11 j
  have g12 : at32 V lo j = (at64 V v14 j).setWidth 32 := congrFun e12 j
  have g13 : at32 V hi j = (at64 V v16 j).setWidth 32 := congrFun e13 j
  have b0 : (j 0).val < 32 := (j 0).isLt
  have b1 : (j 1).val < 2048 := (j 1).isLt
  have gv : at64 V v14 j = BitVec.ofNat 64 (2048 * (j 0).val + (j 1).val) := by
    rw [g8, g4, g7, g3, g6, g0, g1]
    apply BitVec.eq_of_toNat_eq
    simp only [BitVec.toNat_add, BitVec.toNat_mul, BitVec.toNat_ofNat]
    omega
  refine Prod.ext ?_ ?_
  · show at32 V hi j = 0#32
    rw [g13, g11, g10]
    refine high_word _ ?_
    rw [gv, BitVec.toNat_ofNat]; omega
  · show at32 V lo j = counter (j 0).val (j 1).val
    rw [g12, gv]
    apply BitVec.eq_of_toNat_eq
    simp only [counter, BitVec.toNat_setWidth, BitVec.toNat_ofNat]
    omega

/-- The counters of a key split, as a high and a low word. -/
theorem counters2 {i0 v5 v6 v7 v8 : TRef sig ⟨S2, .i64⟩} {hi lo : TRef sig ⟨S2, .i32⟩}
    {c c0 : TRef sig ⟨S_, .i64⟩} {hb : S_.BroadcastsInDim S2 (![] : Fin 0 → Fin S2.rank)} {ht : 32 < 64}
    (h : Holds V (Step.nullary i0 (iotaInDim S2 64 0) :: Step.nullary c (constantI S_ 64 1#64) ::
      Step.unary c v5 (broadcastInDim S2 ![] hb) :: Step.binary v5 i0 v6 muli ::
      Step.nullary c0 (constantI S_ 64 32#64) :: Step.unary c0 v7 (broadcastInDim S2 ![] hb) ::
      Step.binary v6 v7 v8 Host.shrui :: Step.unary v6 lo (trunci 32 · ht) :: Step.unary v8 hi (trunci 32 · ht) :: l)) :
    (∀ r : Fin 2, (at32 V hi (ix1 r), at32 V lo (ix1 r)) = (0#32, BitVec.ofNat 32 r.val)) ∧ Holds V l := by
  obtain ⟨e0, e1, e2, e3, e4, e5, e6, e7, e8, hl⟩ := h
  refine ⟨fun r => ?_, hl⟩
  have g2 : at64 V v5 (ix1 r) = 1#64 := (congrFun e2 _).trans ((broadcastInDim_scalar_apply hb _ _).trans (congrFun e1 ix0))
  have g5 : at64 V v7 (ix1 r) = 32#64 := (congrFun e5 _).trans ((broadcastInDim_scalar_apply hb _ _).trans (congrFun e4 ix0))
  have g0 : at64 V i0 (ix1 r) = BitVec.ofNat 64 r.val := congrFun e0 _
  have g3 : at64 V v6 (ix1 r) = at64 V v5 (ix1 r) * at64 V i0 (ix1 r) := congrFun e3 _
  have g6 : at64 V v8 (ix1 r) = IntOp.shrui .host (at64 V v6 (ix1 r)) (at64 V v7 (ix1 r)) := congrFun e6 _
  have g7 : at32 V lo (ix1 r) = (at64 V v6 (ix1 r)).setWidth 32 := congrFun e7 _
  have g8 : at32 V hi (ix1 r) = (at64 V v8 (ix1 r)).setWidth 32 := congrFun e8 _
  have b0 := r.isLt
  refine Prod.ext ?_ ?_
  · show at32 V hi (ix1 r) = 0#32
    rw [g8, g6, g5]
    refine high_word _ ?_
    rw [g3, g2, g0]
    simp only [BitVec.toNat_mul, BitVec.toNat_ofNat]
    omega
  · show at32 V lo (ix1 r) = BitVec.ofNat 32 r.val
    rw [g7, g3, g2, g0]
    apply BitVec.eq_of_toNat_eq
    simp only [BitVec.toNat_mul, BitVec.toNat_setWidth, BitVec.toNat_ofNat]
    omega

end Cert.ReferenceIdeal.Ln

end
-- ==== Proof.RefKeys.lean ====
/- The reference's key splits and draws: the two keys that a split gives, and the words drawn with a key. -/
module

public import proofs.«01_k».proof.Proof.RefWords

@[expose] public section

set_option maxRecDepth 16384
set_option maxHeartbeats 4000000

noncomputable section

namespace Cert.ReferenceIdeal.Ln

open Idealize.ShloMosaic hiding ix0 ix1 ix2 ix3
open Idealize.ShloMosaic.StableHlo Idealize.ShloMosaic.ValueIdx Idealize.SL.Sem
open Cert.Line Cert.Cipher Cert.ReferenceIdeal Cert.ReferenceIdeal.Gen
open Cert.KernelIdeal.Words (both counter)

variable {V : Val} {l : Steps}

/-- The key that a split of the key `k` gives in row `r`. -/
def child (k : W × W) (r : Nat) : W × W := cipher k.1 k.2 (0#32, BitVec.ofNat 32 r)

/-- A buffer of two words that holds the key `k`. -/
def IsKey (V : Val) (a : TRef sig ⟨S2, .i32⟩) (k : W × W) : Prop := at32 V a (ix1 0) = k.1 ∧ at32 V a (ix1 1) = k.2

/-- A buffer of two rows that holds the two keys split from `k`. -/
def IsSplit (V : Val) (a : TRef sig ⟨S2x2, .i32⟩) (k : W × W) : Prop :=
  ∀ r : Fin 2, at32 V a (ix2 r 0) = (child k r.val).1 ∧ at32 V a (ix2 r 1) = (child k r.val).2

/-- The end of a split: the cipher on the two counters, its results side by side. -/
theorem split_end {k0 k1 : TRef sig ⟨S_, .i32⟩} {hi lo : TRef sig ⟨S2, .i32⟩} {φ : fn_threefry2x32.Bufs}
    {v12 v13 : TRef sig ⟨S2x1, .i32⟩} {v14 : TRef sig ⟨S2x2, .i32⟩} {hb : S2.BroadcastsInDim S2x1 ![0]}
    {hc : Shape.Concatenates [S2x1, S2x1] S2x2 1} {k : W × W} (hk0 : word V k0 = k.1) (hk1 : word V k1 = k.2)
    (hr : ∀ r : Fin 2, (at32 V hi (ix1 r), at32 V lo (ix1 r)) = (0#32, BitVec.ofNat 32 r.val))
    (h : Holds V ((tfA k0 k1 hi lo φ).1 ++ Step.unary φ.v171 v12 (broadcastInDim S2x1 ![0] hb) ::
      Step.unary φ.v175 v13 (broadcastInDim S2x1 ![0] hb) ::
      Step.binary v12 v13 v14 (fun a b => concatenate S2x2 1 [⟨S2x1, a⟩, ⟨S2x1, b⟩] hc) :: l)) :
    IsSplit V v14 k := by
  obtain ⟨ht, e12, e13, e14, hl⟩ := holds_append h
  intro r
  obtain ⟨c0, c1⟩ := tfA_value ht (ix1 r)
  have hp : (at32 V hi (ix1 r), at32 V lo (ix1 r)) = (0#32, BitVec.ofNat 32 r.val) := hr r
  rw [hp, hk0, hk1] at c0 c1
  have g12 : at32 V v12 (ix2 r 0) = at32 V φ.v171 (ix1 r) := (congrFun e12 _).trans
    (broadcastInDim_apply ![0] hb _ (ix2 r 0) (ix1 r) fun | ⟨0, _⟩ => rfl)
  have g13 : at32 V v13 (ix2 r 0) = at32 V φ.v175 (ix1 r) := (congrFun e13 _).trans
    (broadcastInDim_apply ![0] hb _ (ix2 r 0) (ix1 r) fun | ⟨0, _⟩ => rfl)
  refine ⟨(congrFun e14 _).trans ((concatenate_pair_apply_left (t := S2x2) (s₁ := S2x1) (s₂ := S2x1) 1 _ _ hc (ix2 r 0) rfl (ix2 r 0) ?_).trans (g12.trans c0)),
    (congrFun e14 _).trans ((concatenate_pair_apply_right (t := S2x2) (s₁ := S2x1) (s₂ := S2x1) 1 _ _ hc (ix2 r 1) rfl rfl (ix2 r 0) ?_ ?_).trans (g13.trans c1))⟩
  · exact fun | ⟨0, _⟩ => rfl | ⟨1, _⟩ => rfl
  · exact fun | ⟨0, _⟩ => fun _ => rfl | ⟨1, _⟩ => fun hn => absurd rfl hn
  · rfl

/-- The first key split. -/
theorem split_value {a : TRef sig ⟨S2, .i32⟩} {φ : fn_threefry_split.Bufs} {k : W × W} (ha : IsKey V a k)
    (h : Holds V (split a φ).1) : IsSplit V φ.v14 k := by
  obtain ⟨hk0, hk1, h⟩ := keyWords h
  obtain ⟨hr, h⟩ := counters2 h
  exact split_end (hk0.trans ha.1) (hk1.trans ha.2) hr h

/-- The second key split. -/
theorem split2_value {a : TRef sig ⟨S2, .i32⟩} {φ : fn_threefry_split_2.Bufs} {k : W × W} (ha : IsKey V a k)
    (h : Holds V (split2 a φ).1) : IsSplit V φ.v14 k := by
  obtain ⟨hk0, hk1, h⟩ := keyWords h
  obtain ⟨hr, h⟩ := counters2 h
  exact split_end (hk0.trans ha.1) (hk1.trans ha.2) hr h

/-- One row of a split, as a key. -/
theorem childKey {a : TRef sig ⟨S2x2, .i32⟩} {v : TRef sig ⟨S1x2, .i32⟩} {y : TRef sig ⟨S2, .i32⟩} {o : Fin 2 → Nat}
    {h0 : S2x2.Slices o S1x2} {hc : S1x2.ShapeCasts S2} {k : W × W} (r : Fin 2) (ho : o = ![r.val, 0]) (ha : IsSplit V a k)
    (h : Holds V (Step.unary a v (extractStridedSlice S1x2 o · h0) ::
      Step.reshape v y (rfl : (.i32 : EltTy) = .i32) hc :: l)) : IsKey V y (child k r.val) ∧ Holds V l := by
  obtain ⟨hr, hl⟩ := keyRow r h0 hc ho h
  exact ⟨⟨(hr 0).trans (ha r).1, (hr 1).trans (ha r).2⟩, hl⟩

/-- The word drawn with the key `k` at an index of the array. -/
def drawn (k : W × W) (j : S32x2048.Idx) : W := both (cipher k.1 k.2 (0#32, counter (j 0).val (j 1).val))

/-- The words drawn with a key: the cipher on the counters, its two results combined. -/
theorem draw {a : TRef sig ⟨S2, .i32⟩} {v0 v2 : TRef sig ⟨S1, .i32⟩} {v1 v3 : TRef sig ⟨S_, .i32⟩}
    {h0 : S2.Slices ![0] S1} {h1 : S2.Slices ![1] S1} {hs hs' : S1.ShapeCasts S_}
    {i0 i1 v10 v11 v12 v13 v14 v15 v16 : TRef sig ⟨S32x2048, .i64⟩} {hi lo y : TRef sig ⟨S32x2048, .i32⟩}
    {c c0 c1 : TRef sig ⟨S_, .i64⟩} {hb : S_.BroadcastsInDim S32x2048 (![] : Fin 0 → Fin S32x2048.rank)} {ht : 32 < 64}
    {φ : fn_threefry2x32_0.Bufs} {k : W × W} (ha : IsKey V a k)
    (h : Holds V (Step.unary a v0 (extractStridedSlice S1 ![0] · h0) :: Step.reshape v0 v1 (rfl : (.i32 : EltTy) = .i32) hs ::
      Step.unary a v2 (extractStridedSlice S1 ![1] · h1) :: Step.reshape v2 v3 (rfl : (.i32 : EltTy) = .i32) hs' ::
      Step.nullary i0 (iotaInDim S32x2048 64 0) :: Step.nullary i1 (iotaInDim S32x2048 64 1) ::
      Step.nullary c (constantI S_ 64 2048#64) :: Step.unary c v10 (broadcastInDim S32x2048 ![] hb) ::
      Step.binary v10 i0 v11 muli :: Step.nullary c0 (constantI S_ 64 1#64) ::
      Step.unary c0 v12 (broadcastInDim S32x2048 ![] hb) :: Step.binary v12 i1 v13 muli :: Step.binary v11 v13 v14 addi ::
      Step.nullary c1 (constantI S_ 64 32#64) :: Step.unary c1 v15 (broadcastInDim S32x2048 ![] hb) ::
      Step.binary v14 v15 v16 Host.shrui :: Step.unary v14 lo (trunci 32 · ht) :: Step.unary v16 hi (trunci 32 · ht) ::
      ((tfB v1 v3 hi lo φ).1 ++ Step.binary φ.v171 φ.v175 y xori :: l))) :
    (∀ j, at32 V y j = drawn k j) ∧ Holds V l := by
  obtain ⟨hk0, hk1, h⟩ := keyWords h
  obtain ⟨hc, h⟩ := counters h
  obtain ⟨h, e, hl⟩ := holds_append h
  refine ⟨fun j => ?_, hl⟩
  obtain ⟨c0, c1⟩ := tfB_value h j
  have hp : (at32 V hi j, at32 V lo j) = (0#32, counter (j 0).val (j 1).val) := hc j
  rw [hp, hk0, hk1, ha.1, ha.2] at c0 c1
  have g : at32 V y j = IntOp.xori (at32 V φ.v171 j) (at32 V φ.v175 j) := congrFun e j
  exact g.trans (congrArg₂ IntOp.xori c0 c1)

/-- The key of the mask is the first of the two split from the seed's key. -/
theorem maskKey : child (0#32, 42#32) 0 = (1832780943#32, 270669613#32) := by decide +kernel

/-- The key of the high words of the random classes. -/
theorem highKey : child (child (0#32, 42#32) 1) 0 = (3187376881#32, 129218101#32) := by decide +kernel

/-- The key of the low words of the random classes. -/
theorem lowKey : child (child (0#32, 42#32) 1) 1 = (2350016172#32, 1168365246#32) := by decide +kernel

end Cert.ReferenceIdeal.Ln

end
-- ==== Proof.RefMask.lean ====
/- The reference's mask: a uniform number below the probability is the kernel's comparison of the drawn word. -/
module

public import proofs.«01_k».proof.Proof.Arith
public import proofs.«01_k».proof.Proof.RefKeys

@[expose] public section

set_option maxRecDepth 16384
set_option maxHeartbeats 4000000

noncomputable section

namespace Cert.ReferenceIdeal.Ln

open Idealize.ShloMosaic hiding ix0 ix1 ix2 ix3
open Idealize.ShloMosaic.StableHlo Idealize.ShloMosaic.ValueIdx Idealize.SL.Sem
open Cert.Line Cert.Cipher Cert.ReferenceIdeal Cert.ReferenceIdeal.Gen
open Cert.KernelIdeal.Words (less)

variable {V : Val}

/-- What a buffer of floats holds at an index. -/
abbrev atF {S : Shape} (V : Val) (x : TRef sig ⟨S, .f32⟩) (j : S.Idx) : Ideal .f32 := (get V x : FVec Ideal S .f32) j

/-- What a buffer of bits holds at an index. -/
abbrev at1 {S : Shape} (V : Val) (x : TRef sig ⟨S, .i1⟩) (j : S.Idx) : BitVec 1 := (get V x : IVec S 1) j

/-- The number between 0 and 1 that a word gives, in a float instance. -/
def unit (F : FTy → Type) [FloatOps F] (w : W) : F .f32 :=
  FloatOps.subf (FloatOps.ofBits .f32 (IntOp.ori (IntOp.shrui .vector w 9#32) 1065353216#32)) (FloatOps.ofBits .f32 0x3F800000#32)

/-- A number scaled to the range from `lo` to `hi`, in a float instance. -/
def scaled (F : FTy → Type) [FloatOps F] (lo hi u : F .f32) : F .f32 :=
  FloatOps.maximumf lo (FloatOps.addf (FloatOps.mulf u (FloatOps.subf hi lo)) lo)

/-- A one by one array broadcast to the whole array. -/
theorem splat {α : Type} (hb : S1x1.BroadcastsInDim S32x2048 ![0, 1]) (x : S1x1.Idx → α) (j : S32x2048.Idx) :
    broadcastInDim S32x2048 ![0, 1] hb x j = x (ix2 0 0) :=
  broadcastInDim_apply ![0, 1] hb x j (ix2 0 0) fun | ⟨0, _⟩ => rfl | ⟨1, _⟩ => rfl

/-- The uniform numbers drawn with a key. -/
theorem uniform_value {a : TRef sig ⟨S2, .i32⟩} {lo hi : TRef sig ⟨S_, .f32⟩} {φ : fn_uniform.Bufs} {k : W × W}
    (ha : IsKey V a k) (h : Holds V (uniform a lo hi φ).1) (j : S32x2048.Idx) :
    atF V φ.v34 j = scaled Ideal (atF V lo ix0) (atF V hi ix0) (unit Ideal (drawn k j)) := by
  obtain ⟨e0, e1, e2, e3, h⟩ := h
  obtain ⟨hw, h⟩ := draw ha h
  obtain ⟨d0, d1, d2, d3, d4, d5, d6, d7, d8, d9, d10, d11, d12, d13, d14, d15, d16, -⟩ := h
  have g2 (o : S1x1.Idx) : atF V φ.v2 o = atF V lo ix0 :=
    (congrFun e2 o).trans ((broadcastInDim_scalar_apply bcast_S_S1x1 _ o).trans (congrFun e0 ix0))
  have g3 (o : S1x1.Idx) : atF V φ.v3 o = atF V hi ix0 :=
    (congrFun e3 o).trans ((broadcastInDim_scalar_apply bcast_S_S1x1 _ o).trans (congrFun e1 ix0))
  have g21 : at32 V φ.v21 j = 9#32 :=
    (congrFun d1 j).trans ((broadcastInDim_scalar_apply bcast_S_S32x2048 _ j).trans (congrFun d0 ix0))
  have g22 : at32 V φ.v22 j = IntOp.shrui .host (at32 V φ.v20 j) (at32 V φ.v21 j) := congrFun d2 j
  have g23 : at32 V φ.v23 j = 1065353216#32 :=
    (congrFun d4 j).trans ((broadcastInDim_scalar_apply bcast_S_S32x2048 _ j).trans (congrFun d3 ix0))
  have g24 : at32 V φ.v24 j = IntOp.ori (at32 V φ.v22 j) (at32 V φ.v23 j) := congrFun d5 j
  have g25 : atF V φ.v25 j = FloatOps.ofBits .f32 (at32 V φ.v24 j) := congrFun d6 j
  have g26 : atF V φ.v26 j = FloatOps.ofBits .f32 0x3F800000#32 :=
    (congrFun d8 j).trans ((broadcastInDim_scalar_apply bcast_S_S32x2048 _ j).trans (congrFun d7 ix0))
  have g27 : atF V φ.v27 j = FloatOps.subf (atF V φ.v25 j) (atF V φ.v26 j) := congrFun d9 j
  have g28 (o : S1x1.Idx) : atF V φ.v28 o = FloatOps.subf (atF V φ.v3 o) (atF V φ.v2 o) := congrFun d10 o
  have g29 : atF V φ.v29 j = atF V φ.v28 (ix2 0 0) := (congrFun d11 j).trans (splat bcast_S1x1_S32x2048_0_1 _ j)
  have g30 : atF V φ.v30 j = FloatOps.mulf (atF V φ.v27 j) (atF V φ.v29 j) := congrFun d12 j
  have g31 : atF V φ.v31 j = atF V φ.v2 (ix2 0 0) := (congrFun d13 j).trans (splat bcast_S1x1_S32x2048_0_1 _ j)
  have g32 : atF V φ.v32 j = FloatOps.addf (atF V φ.v30 j) (atF V φ.v31 j) := congrFun d14 j
  have g33 : atF V φ.v33 j = atF V φ.v2 (ix2 0 0) := (congrFun d15 j).trans (splat bcast_S1x1_S32x2048_0_1 _ j)
  have g34 : atF V φ.v34 j = FloatOps.maximumf (atF V φ.v33 j) (atF V φ.v32 j) := congrFun d16 j
  rw [g34, g33, g32, g31, g30, g29, g28, g27, g26, g25, g24, g23, g22, g21, g2, g3, hw j, shrui_host]
  rfl

/-- A number scaled to the range from 0 to 1 and kept from falling below 0 is below the probability just when the
    number itself is. -/
theorem scaled_less (u : Ideal .f32) :
    FloatOps.cmpf .olt (scaled Ideal (FloatOps.ofBits .f32 0x00000000#32) (FloatOps.ofBits .f32 0x3F800000#32) u)
        (FloatOps.ofBits .f32 0x3E4CCCCD#32) =
      FloatOps.cmpf .olt u (FloatOps.ofBits (F := Ideal) .f32 0x3E4CCCCD#32) := by
  have h0 : FloatOps.ofBits (F := Ideal) .f32 0x00000000#32 = (0 : EReal) := by simp [Ideal.ofBits, Ideal.ieee]
  have h1 : FloatOps.ofBits (F := Ideal) .f32 0x3F800000#32 = (1 : EReal) := by
    simp [Ideal.ofBits, Ideal.ieee, -EReal.coe_mul]; norm_num
  have hp : FloatOps.ofBits (F := Ideal) .f32 0x3E4CCCCD#32 = ((13421773 / 2 ^ 26 : ℝ) : EReal) := by
    simp [Ideal.ofBits, Ideal.ieee, -EReal.coe_mul]; norm_num
  have hs : scaled Ideal (0 : EReal) (1 : EReal) u = max (0 : EReal) u := by
    show max (0 : EReal) ((u : EReal) * (1 - 0) + 0) = max (0 : EReal) u
    rw [sub_zero, mul_one, add_zero]
  rw [h0, h1, hp, hs]
  refine congrArg BitVec.ofBool (decide_eq_decide.mpr ?_)
  have : (0 : EReal) < ((13421773 / 2 ^ 26 : ℝ) : EReal) := by
    rw [← EReal.coe_zero, EReal.coe_lt_coe_iff]; norm_num
  exact ⟨fun h => (max_lt_iff.mp h).2, fun h => max_lt this h⟩

/-- The mask drawn with a key. -/
theorem bernoulli_value {a : TRef sig ⟨S2, .i32⟩} {p : TRef sig ⟨S_, .f32⟩} {φ : fn_bernoulli.Bufs} {k : W × W}
    (ha : IsKey V a k) (hp : atF V p ix0 = FloatOps.ofBits .f32 0x3E4CCCCD#32) (h : Holds V (bernoulli a p φ).1)
    (j : S32x2048.Idx) : at1 V φ.v2 j = less Ideal (drawn k j) := by
  obtain ⟨e0, e1, h⟩ := h
  obtain ⟨h, e2, e3, -⟩ := holds_append h
  have g0 : atF V φ.cst ix0 = FloatOps.ofBits .f32 0x00000000#32 := congrFun e0 ix0
  have g1 : atF V φ.cst_0 ix0 = FloatOps.ofBits .f32 0x3F800000#32 := congrFun e1 ix0
  have g2 : atF V φ.v1 j = FloatOps.ofBits .f32 0x3E4CCCCD#32 :=
    (congrFun e2 j).trans ((broadcastInDim_scalar_apply bcast_S_S32x2048 _ j).trans hp)
  have g3 : at1 V φ.v2 j = FloatOps.cmpf .olt (atF V φ.call0.v34 j) (atF V φ.v1 j) := congrFun e3 j
  rw [g3, g2, uniform_value ha h j, g0, g1]
  exact scaled_less _

end Cert.ReferenceIdeal.Ln

end
-- ==== Proof.RefClass.lean ====
/- The reference's random classes: two drawn words reduced to a number below 1000, which is the kernel's token. -/
module

public import proofs.«01_k».proof.Proof.RefMask
public import Idealize.ShloMosaic.Lib.Routing.Words

@[expose] public section

set_option maxRecDepth 16384
set_option maxHeartbeats 4000000

noncomputable section

namespace Cert.ReferenceIdeal.Ln

open Idealize.ShloMosaic hiding ix0 ix1 ix2 ix3
open Idealize.ShloMosaic.StableHlo Idealize.ShloMosaic.ValueIdx Idealize.SL.Sem
open Cert.Line Cert.Cipher Cert.ReferenceIdeal Cert.ReferenceIdeal.Gen
open Cert.KernelIdeal.Words (token token_num)

variable {V : Val}

/-- The clip of the largest word. -/
theorem clip_value {a lo hi : TRef sig ⟨S_, .i32⟩} {φ : fn_clip.Bufs} (h : Holds V (clip a lo hi φ).1) :
    word V φ.v1 = IntOp.minsi (word V hi) (IntOp.maxsi (word V lo) (word V a)) := by
  obtain ⟨e0, e1, -⟩ := h
  have g0 : word V φ.v0 = IntOp.maxsi (word V lo) (word V a) := congrFun e0 ix0
  rw [← g0]; exact congrFun e1 ix0

/-- The clip of a range's end. -/
theorem clip1_value {a lo hi : TRef sig ⟨S_, .i32⟩} {φ : fn_clip_1.Bufs} (h : Holds V (clip1 a lo hi φ).1) :
    word V φ.v1 = IntOp.minsi (word V hi) (IntOp.maxsi (word V lo) (word V a)) := by
  obtain ⟨e0, e1, -⟩ := h
  have g0 : word V φ.v0 = IntOp.maxsi (word V lo) (word V a) := congrFun e0 ix0
  rw [← g0]; exact congrFun e1 ix0

/-- The first part of the draw: the range's ends, and the two words drawn with the keys split from `k`. -/
theorem randint0_value {a : TRef sig ⟨S2, .i32⟩} {lo hi : TRef sig ⟨S_, .i32⟩} {φ : fn_randint.Bufs} {k : W × W}
    (ha : IsKey V a k) (hlo : word V lo = 0#32) (hhi : word V hi = 1000#32) (h : Holds V (randint0 a lo hi φ).1) :
    (get V φ.v1 : IVec S_ 1) ix0 = 0#1 ∧ (∀ o, at32 V φ.v6 o = 0#32) ∧ (∀ o, at32 V φ.v7 o = 1000#32) ∧
      (∀ j, at32 V φ.v29 j = drawn (child k 0) j) ∧ ∀ j, at32 V φ.v46 j = drawn (child k 1) j := by
  obtain ⟨e0, e1, e2, h⟩ := h
  obtain ⟨hc0, e3, e4, e5, h⟩ := holds_append h
  obtain ⟨hc1, e6, e7, e8, h⟩ := holds_append h
  obtain ⟨hc2, e9, e10, e11, h⟩ := holds_append h
  obtain ⟨hs, h⟩ := holds_append h
  have hs := split2_value ha hs
  obtain ⟨k0, h⟩ := childKey 0 rfl hs h
  obtain ⟨k1, h⟩ := childKey 1 rfl hs h
  obtain ⟨w0, h⟩ := draw k0 h
  obtain ⟨w1, -⟩ := draw k1 h
  have f0 : word V φ.c = 2147483647#32 := congrFun e0 ix0
  have f1 : word V φ.c_0 = 2147483648#32 := congrFun e1 ix0
  have f2 : word V φ.c_1 = 2147483647#32 := congrFun e2 ix0
  have f3 : (get V φ.v1 : IVec S_ 1) ix0 = IntOp.cmpi .sgt (word V hi) (word V φ.call0.v1) := congrFun e3 ix0
  have f4 : word V φ.c_2 = 2147483648#32 := congrFun e4 ix0
  have f5 : word V φ.c_3 = 2147483647#32 := congrFun e5 ix0
  have f6 : word V φ.v3 = word V φ.call1.v1 := congrFun e6 ix0
  have f7 : word V φ.c_4 = 2147483648#32 := congrFun e7 ix0
  have f8 : word V φ.c_5 = 2147483647#32 := congrFun e8 ix0
  have f9 : word V φ.v5 = word V φ.call2.v1 := congrFun e9 ix0
  refine ⟨?_, fun o => ?_, fun o => ?_, w0, w1⟩
  · rw [f3, clip_value hc0, f0, f1, f2, hhi]; decide
  · refine (congrFun e10 o).trans ((broadcastInDim_scalar_apply bcast_S_S1x1 _ o).trans (f6.trans ?_))
    rw [clip1_value hc1, f4, f5, hlo]; decide
  · refine (congrFun e11 o).trans ((broadcastInDim_scalar_apply bcast_S_S1x1 _ o).trans (f9.trans ?_))
    rw [clip1_value hc2, f7, f8, hhi]; decide

/-- The remainder of a word by 1000. -/
theorem rem_word (w : W) : IntOp.remui .host w 1000#32 = BitVec.ofNat 32 (w.toNat % 1000) := by
  have := Routing.remui_word .host (a := w.toNat) (b := 1000) w.isLt (by norm_num) (by norm_num)
  rwa [BitVec.ofNat_toNat, BitVec.setWidth_eq] at this

/-- The reduction of two words in the reference's arithmetic. -/
theorem reduced (hi lo : W) :
    IntOp.addi 0#32 (IntOp.remui .host (IntOp.addi (IntOp.muli (IntOp.remui .host hi 1000#32) 296#32)
      (IntOp.remui .host lo 1000#32)) 1000#32) = BitVec.ofNat 32 ((hi.toNat % 1000 * 296 + lo.toNat % 1000) % 1000) := by
  have e : IntOp.addi (IntOp.muli (IntOp.remui .host hi 1000#32) 296#32) (IntOp.remui .host lo 1000#32) =
      BitVec.ofNat 32 (hi.toNat % 1000 * 296 + lo.toNat % 1000) := by
    rw [rem_word, rem_word]
    apply BitVec.eq_of_toNat_eq
    simp only [IntOp.addi, IntOp.muli, BitVec.toNat_add, BitVec.toNat_mul, BitVec.toNat_ofNat]
    omega
  rw [e, rem_word, BitVec.toNat_ofNat, Nat.mod_eq_of_lt (a := hi.toNat % 1000 * 296 + lo.toNat % 1000) (by omega)]
  exact BitVec.zero_add _

/-- The second part of the draw: the two words reduced to a number below the range's length. -/
theorem randint1_value {a : TRef sig ⟨S2, .i32⟩} {lo hi : TRef sig ⟨S_, .i32⟩} {φ : fn_randint.Bufs} {j : S32x2048.Idx}
    (h1 : (get V φ.v1 : IVec S_ 1) ix0 = 0#1) (h6 : ∀ o, at32 V φ.v6 o = 0#32) (h7 : ∀ o, at32 V φ.v7 o = 1000#32)
    (h : Holds V (randint1 a lo hi φ).1) : at32 V φ.v73 j = token Ideal (at32 V φ.v29 j) (at32 V φ.v46 j) := by
  obtain ⟨e47, e48, e49, -, -, e51, e52, e53, e54, -, -, -, e57, e14, e58, e59, e60, e61, e62, e63, e64, e65, e66, e67,
    e68, e69, e70, e71, e72, e73, -⟩ := h
  have g57 (o : S1x1.Idx) : at32 V φ.v57 o = 1000#32 := by
    have g47 : at32 V φ.v47 o = IntOp.subi (at32 V φ.v7 o) (at32 V φ.v6 o) := congrFun e47 o
    have g48 : at32 V φ.v48 o = at32 V φ.v47 o := congrFun e48 o
    have g49 : at1 V φ.v49 o = IntOp.cmpi .sle (at32 V φ.v7 o) (at32 V φ.v6 o) := congrFun e49 o
    have g51 : at32 V φ.v51 o = Scalar.select (at1 V φ.v49 o) (at32 V φ.v50 o) (at32 V φ.v48 o) := congrFun e51 o
    have g53 : at1 V φ.v53 o = 0#1 := (congrFun e53 o).trans ((broadcastInDim_scalar_apply bcast_S_S1x1 _ o).trans h1)
    have g54 : at1 V φ.v54 o = IntOp.andi (at1 V φ.v53 o) (at1 V φ.v52 o) := congrFun e54 o
    have g57 : at32 V φ.v57 o = Scalar.select (at1 V φ.v54 o) (at32 V φ.v56 o) (at32 V φ.v51 o) := congrFun e57 o
    have s0 : IntOp.andi 0#1 (at1 V φ.v52 o) = 0#1 := BitVec.zero_and
    have s1 (x y : W) : Scalar.select 0#1 x y = y := rfl
    rw [g57, g54, g53, s0, s1, g51, g49, g48, g47, h6, h7]
    exact s1 _ _
  have g61 (o : S1x1.Idx) : at32 V φ.v61 o = 296#32 := by
    have g58 : at32 V φ.v58 o = 65536#32 :=
      (congrFun e58 o).trans ((broadcastInDim_scalar_apply bcast_S_S1x1 _ o).trans (congrFun e14 ix0))
    have g59 : at32 V φ.v59 o = IntOp.remui .host (at32 V φ.v58 o) (at32 V φ.v57 o) := congrFun e59 o
    have g60 : at32 V φ.v60 o = IntOp.muli (at32 V φ.v59 o) (at32 V φ.v59 o) := congrFun e60 o
    have g61 : at32 V φ.v61 o = IntOp.remui .host (at32 V φ.v60 o) (at32 V φ.v57 o) := congrFun e61 o
    rw [g61, g60, g59, g58, g57, rem_word, rem_word]
    decide +kernel
  have g62 : at32 V φ.v62 j = 1000#32 := (congrFun e62 j).trans ((splat bcast_S1x1_S32x2048_0_1 _ j).trans (g57 _))
  have g63 : at32 V φ.v63 j = IntOp.remui .host (at32 V φ.v29 j) (at32 V φ.v62 j) := congrFun e63 j
  have g64 : at32 V φ.v64 j = 296#32 := (congrFun e64 j).trans ((splat bcast_S1x1_S32x2048_0_1 _ j).trans (g61 _))
  have g65 : at32 V φ.v65 j = IntOp.muli (at32 V φ.v63 j) (at32 V φ.v64 j) := congrFun e65 j
  have g66 : at32 V φ.v66 j = 1000#32 := (congrFun e66 j).trans ((splat bcast_S1x1_S32x2048_0_1 _ j).trans (g57 _))
  have g67 : at32 V φ.v67 j = IntOp.remui .host (at32 V φ.v46 j) (at32 V φ.v66 j) := congrFun e67 j
  have g68 : at32 V φ.v68 j = IntOp.addi (at32 V φ.v65 j) (at32 V φ.v67 j) := congrFun e68 j
  have g69 : at32 V φ.v69 j = 1000#32 := (congrFun e69 j).trans ((splat bcast_S1x1_S32x2048_0_1 _ j).trans (g57 _))
  have g70 : at32 V φ.v70 j = IntOp.remui .host (at32 V φ.v68 j) (at32 V φ.v69 j) := congrFun e70 j
  have g71 : at32 V φ.v71 j = at32 V φ.v70 j := congrFun e71 j
  have g72 : at32 V φ.v72 j = 0#32 := (congrFun e72 j).trans ((splat bcast_S1x1_S32x2048_0_1 _ j).trans (h6 _))
  have g73 : at32 V φ.v73 j = IntOp.addi (at32 V φ.v72 j) (at32 V φ.v71 j) := congrFun e73 j
  rw [g73, g72, g71, g70, g69, g68, g67, g66, g65, g64, g63, g62, token_num]
  exact reduced _ _

/-- The classes drawn with a key. -/
theorem randint_value {a : TRef sig ⟨S2, .i32⟩} {lo hi : TRef sig ⟨S_, .i32⟩} {φ : fn_randint.Bufs} {k : W × W}
    (ha : IsKey V a k) (hlo : word V lo = 0#32) (hhi : word V hi = 1000#32) (h : Holds V (randint a lo hi φ).1)
    (j : S32x2048.Idx) : at32 V φ.v73 j = token Ideal (drawn (child k 0) j) (drawn (child k 1) j) := by
  obtain ⟨h0, h1⟩ := holds_append h
  obtain ⟨g1, g6, g7, g29, g46⟩ := randint0_value ha hlo hhi h0
  rw [randint1_value g1 g6 g7 h1, g29, g46]

end Cert.ReferenceIdeal.Ln

end
-- ==== Proof.RefLine.lean ====
module

public import proofs.«01_k».proof.Proof.RefFns

@[expose] public section

set_option maxRecDepth 16384
set_option maxHeartbeats 4000000
set_option synthInstance.maxHeartbeats 4000000
set_option synthInstance.maxSize 4096

noncomputable section

namespace Cert.ReferenceIdeal.Ln

open Idealize.ShloMosaic Idealize.ShloMosaic.StableHlo Idealize.SL.Sem Cert.Line
open Cert.ReferenceIdeal Cert.ReferenceIdeal.Gen

/-- The whole reference. -/
instance mainS (d : Dev nD) : Lined (main (F := Ideal) d) := .of _ (main.eq_1 ..)

/-- Every operation of the reference writes a buffer beyond all that are read or written before it. -/
theorem main_ordered : ordered 0 (mainS 0).1 = true := by decide +kernel

/-- The reference runs, and ends with the equation of each of its operations true of what each device's buffers
    hold and its argument as it was; it has no semaphore. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, ∃ V : Valuation τ sig (Elt Ideal), Holds V (mainS d).1 ∧
        (∀ b : Ref sig .tc, r.2.mem ((d.tc : Thread nD τ).loc b) = V (Proc.devRef .tc b)) ∧
        V (Proc.devRef .tc main_arg0) = m ((d.tc : Thread nD τ).loc main_arg0)) ∧ r.2.sem = fun _ => 0 := by
  refine θ_run_mono (Line.run defs main (l := (mainS 0).1) (fun d => ?_) 0 main_ordered (by decide) (by decide) m ρ)
    fun r hr => ⟨fun d => ?_, ?_⟩
  · rw [Subsingleton.elim d 0]; exact (mainS 0).2
  · rw [Subsingleton.elim d 0]
    obtain ⟨V, h, hm, h0⟩ := hr 0
    exact ⟨V, h, hm, h0 _ (Nat.le_of_eq rfl)⟩
  · funext sm
    exact ((Fintype.card_eq_zero_iff (α := SemLoc sig)).mp (by decide)).elim sm.2

end Cert.ReferenceIdeal.Ln

end
-- ==== Proof.RefValue.lean ====
/- The array that the reference computes: the kernel's, as a function of the argument. -/
module

public import proofs.«01_k».proof.Proof.RefClass
public import proofs.«01_k».proof.Proof.RefLine

@[expose] public section

set_option maxRecDepth 16384
set_option maxHeartbeats 4000000

noncomputable section

namespace Cert.ReferenceIdeal.Ln

open Idealize.ShloMosaic hiding ix0 ix1 ix2 ix3
open Idealize.ShloMosaic.StableHlo Idealize.ShloMosaic.ValueIdx Idealize.SL.Sem
open Cert.Line Cert.Cipher Cert.ReferenceIdeal Cert.ReferenceIdeal.Gen
open Cert.KernelIdeal.Words (less token lane both counter result)

variable {V : Val}

/-- The one-hot row of a class: 1 at the class, 0 elsewhere. -/
theorem oneHot_value {a : TRef sig ⟨S32x2048, .i32⟩} {φ : fn_one_hot.Bufs} (h : Holds V (oneHot a φ).1)
    (b : Fin 32) (i : Fin 2048) (c : Fin 1000) :
    atF V φ.v5 (ix3 b i c) = FloatOps.uitofp .f32 (IntOp.cmpi .eq (at32 V a (ix2 b i)) (BitVec.ofNat 32 c.val)) := by
  obtain ⟨e0, e1, e2, e3, e4, e5, -⟩ := h
  have g0 : at32 V φ.v0 (ix3 b i 0) = at32 V a (ix2 b i) := (congrFun e0 _).trans
    (broadcastInDim_apply ![0, 1] _ _ (ix3 b i 0) (ix2 b i) fun | ⟨0, _⟩ => rfl | ⟨1, _⟩ => rfl)
  have g1 : at32 V φ.v1 (ix3 0 0 c) = BitVec.ofNat 32 c.val := congrFun e1 _
  have g2 : at32 V φ.v2 (ix3 b i c) = at32 V φ.v0 (ix3 b i 0) := (congrFun e2 _).trans
    (broadcastInDim_apply ![0, 1, 2] _ _ (ix3 b i c) (ix3 b i (0 : Fin 1)) fun | ⟨0, _⟩ => rfl | ⟨1, _⟩ => rfl | ⟨2, _⟩ => rfl)
  have g3 : at32 V φ.v3 (ix3 b i c) = at32 V φ.v1 (ix3 0 0 c) := (congrFun e3 _).trans
    (broadcastInDim_apply ![0, 1, 2] _ _ (ix3 b i c) (ix3 (0 : Fin 1) (0 : Fin 1) c) fun | ⟨0, _⟩ => rfl | ⟨1, _⟩ => rfl | ⟨2, _⟩ => rfl)
  have g4 : at1 V φ.v4 (ix3 b i c) = IntOp.cmpi .eq (at32 V φ.v2 (ix3 b i c)) (at32 V φ.v3 (ix3 b i c)) := congrFun e4 _
  have g5 : atF V φ.v5 (ix3 b i c) = FloatOps.uitofp .f32 (at1 V φ.v4 (ix3 b i c)) := congrFun e5 _
  rw [g5, g4, g3, g2, g1, g0]

/-- The selection between two arrays by the mask of a position. -/
theorem where_value {a0 : TRef sig ⟨S32x2048x1, .i1⟩} {a1 a2 : TRef sig ⟨S32x2048x1000, .f32⟩} {φ : fn_where.Bufs}
    (h : Holds V (whereS a0 a1 a2 φ).1) (b : Fin 32) (i : Fin 2048) (c : Fin 1000) :
    atF V φ.v1 (ix3 b i c) = Scalar.select (at1 V a0 (ix3 b i 0)) (atF V a1 (ix3 b i c)) (atF V a2 (ix3 b i c)) := by
  obtain ⟨e0, e1, -⟩ := h
  have g0 : at1 V φ.v0 (ix3 b i c) = at1 V a0 (ix3 b i 0) := (congrFun e0 _).trans
    (broadcastInDim_apply ![0, 1, 2] _ _ (ix3 b i c) (ix3 b i (0 : Fin 1)) fun | ⟨0, _⟩ => rfl | ⟨1, _⟩ => rfl | ⟨2, _⟩ => rfl)
  have g1 : atF V φ.v1 (ix3 b i c) = Scalar.select (at1 V φ.v0 (ix3 b i c)) (atF V a1 (ix3 b i c)) (atF V a2 (ix3 b i c)) :=
    congrFun e1 _
  rw [g1, g0]

/-- The comparison of a class with a coordinate, as a float: the same from an unsigned bit as from a signed word. -/
theorem hot (t c : W) :
    FloatOps.uitofp (F := Ideal) .f32 (IntOp.cmpi .eq t c) = FloatOps.sitofp .f32 (BitVec.setWidth 32 (IntOp.cmpi .eq c t)) := by
  have e : IntOp.cmpi .eq t c = IntOp.cmpi .eq c t := by
    show BitVec.ofBool (t == c) = BitVec.ofBool (c == t)
    rw [Bool.beq_comm]
  rw [e]
  generalize IntOp.cmpi .eq c t = x
  show (((x.toNat : ℝ)) : EReal) = (((BitVec.setWidth 32 x).toInt : ℝ) : EReal)
  rw [EReal.coe_eq_coe_iff]
  have hx : (BitVec.setWidth 32 x).toInt = x.toNat := by revert x; decide
  rw [hx]; rfl

/-- What the reference leaves in its result, given what its argument holds. -/
theorem main_value {d : Dev nD} (h : Holds V (mainS d).1) :
    V (Proc.devRef .tc main_v18) = result (V (Proc.devRef .tc main_arg0)) := by
  obtain ⟨e0, e1, e2, e3, e4, e5, e6, e7, e8, e9, h⟩ := h
  obtain ⟨hs, h⟩ := holds_append h
  have hk : IsKey V (.of main_v6) (0#32, 42#32) := by
    have f0 : word V (.of main_c) = 42#32 := congrFun e0 ix0
    have f1 : word V (.of main_c_0) = 32#32 := congrFun e1 ix0
    have f2 : word V (.of main_v0) = IntOp.shrui .host (word V (.of main_c)) (word V (.of main_c_0)) := congrFun e2 ix0
    have f3 : word V (.of main_v1) = word V (.of main_v0) := congrFun e3 ix0
    have f4 : at32 V (.of main_v2) (ix1 0) = word V (.of main_v1) :=
      (congrFun e4 _).trans (broadcastInDim_scalar_apply bcast_S_S1 _ _)
    have f5 : word V (.of main_c_1) = 4294967295#32 := congrFun e5 ix0
    have f6 : word V (.of main_v3) = IntOp.andi (word V (.of main_c)) (word V (.of main_c_1)) := congrFun e6 ix0
    have f7 : word V (.of main_v4) = word V (.of main_v3) := congrFun e7 ix0
    have f8 : at32 V (.of main_v5) (ix1 0) = word V (.of main_v4) :=
      (congrFun e8 _).trans (broadcastInDim_scalar_apply bcast_S_S1 _ _)
    refine ⟨(congrFun e9 _).trans ((concatenate_pair_apply_left (t := S2) (s₁ := S1) (s₂ := S1) 0 _ _
        concatenates_S1_S1_S2_d0 (ix1 0) rfl (ix1 0) ?_).trans (f4.trans ?_)),
      (congrFun e9 _).trans ((concatenate_pair_apply_right (t := S2) (s₁ := S1) (s₂ := S1) 0 _ _
        concatenates_S1_S1_S2_d0 (ix1 1) rfl rfl (ix1 0) ?_ ?_).trans (f8.trans ?_))⟩
    · exact fun | ⟨0, _⟩ => rfl
    · rw [f3, f2, f0, f1, shrui_host]; decide
    · exact fun | ⟨0, _⟩ => fun hn => absurd rfl hn
    · rfl
    · rw [f7, f6, f0, f5]; decide
  have hs := split_value hk hs
  obtain ⟨k0, h⟩ := childKey 0 rfl hs h
  obtain ⟨k1, h⟩ := childKey 1 rfl hs h
  obtain ⟨ep, h⟩ := h
  obtain ⟨hm, h⟩ := holds_append h
  obtain ⟨el, eh, h⟩ := h
  obtain ⟨hr, h⟩ := holds_append h
  obtain ⟨ho, h⟩ := holds_append h
  obtain ⟨et, em, h⟩ := h
  obtain ⟨hw, ev, -⟩ := holds_append h
  have hm := bernoulli_value k0 (congrFun ep ix0) hm
  have hr := randint_value k1 (congrFun el ix0) (congrFun eh ix0) hr
  funext y
  obtain ⟨b, c, i, rfl⟩ : ∃ (b : Fin 32) (c : Fin 1000) (i : Fin 2048), y = ix3 b c i := ⟨y 0, y 1, y 2, ValueIdx.eq_ix3 y⟩
  have gv : atF V (.of main_v18) (ix3 b c i) = atF V (.of main_v17) (ix3 b i c) := (congrFun ev _).trans
    (transpose_apply [0, 2, 1] _ _ (ix3 b c i) (ix3 b i c) fun | ⟨0, _⟩ => rfl | ⟨1, _⟩ => rfl | ⟨2, _⟩ => rfl)
  have gt : atF V (.of main_v15) (ix3 b i c) = atF V (.of main_arg0) (ix3 b c i) := (congrFun et _).trans
    (transpose_apply [0, 2, 1] _ _ (ix3 b i c) (ix3 b c i) fun | ⟨0, _⟩ => rfl | ⟨1, _⟩ => rfl | ⟨2, _⟩ => rfl)
  have gm : at1 V (.of main_v16) (ix3 b i 0) = at1 V (.of main_v12) (ix2 b i) := (congrFun em _).trans
    (broadcastInDim_apply ![0, 1] _ _ (ix3 b i (0 : Fin 1)) (ix2 b i) fun | ⟨0, _⟩ => rfl | ⟨1, _⟩ => rfl)
  have g : atF V (.of main_v18) (ix3 b c i) = lane (F := Ideal) (drawn (child (0#32, 42#32) 0) (ix2 b i))
      (drawn (child (child (0#32, 42#32) 1) 0) (ix2 b i)) (drawn (child (child (0#32, 42#32) 1) 1) (ix2 b i)) c.val
      (atF V (.of main_arg0) (ix3 b c i)) := by
    refine gv.trans ((where_value hw b i c).trans ?_)
    rw [gm, gt]
    refine congrArg₂ (fun p x => Scalar.select p x (atF V (.of main_arg0) (ix3 b c i))) (hm _) ?_
    refine (oneHot_value ho b i c).trans ?_
    rw [hr]
    exact hot _ _
  rw [maskKey, highKey, lowKey] at g
  exact g

end Cert.ReferenceIdeal.Ln

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Array
public import proofs.«01_k».proof.Proof.RefValue

@[expose] public section

noncomputable section

namespace Cert.Proof

open Idealize.ShloMosaic Idealize.SL.Sem

/-- The reference runs, keeps its argument and leaves no semaphore raised. -/
theorem frame_reference : Cert.quiescent_ReferenceIdeal := fun m ρ _ =>
  (θ_run Cert.ReferenceIdeal.defs _ _).mono
    (fun _ h => ⟨fun c => by obtain ⟨_, _, hm, h0⟩ := h.1 c; exact (hm _).trans h0, h.2⟩)
    (Cert.ReferenceIdeal.Ln.run m ρ)

/-- From arguments that agree, the kernel and the reference end with the same array. -/
theorem algebraic : Cert.algebraic_KernelIdeal_ReferenceIdeal := by
  intro m ρ m' ρ' _ hagree
  refine ⟨fun c => Cert.KernelIdeal.Words.result
    (m ((c.tc : Thread Cert.KernelIdeal.nD Cert.KernelIdeal.τ).loc Cert.KernelIdeal.main_arg0)),
    Cert.KernelIdeal.Words.run m ρ, ?_⟩
  refine (θ_run Cert.ReferenceIdeal.defs _ _).mono (fun _ h c => ?_) (Cert.ReferenceIdeal.Ln.run m' ρ')
  obtain ⟨V, hV, hm, h0⟩ := h.1 c
  refine ⟨(hm _).trans ((Cert.ReferenceIdeal.Ln.main_value hV).trans ?_), (hm _).trans h0⟩
  exact congrArg Cert.KernelIdeal.Words.result (h0.trans (hagree c))

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
